-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_in_range_KernelIdeal [hPre_finite_in_range_KernelIdeal : Cert.Pre_finite_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range_ReferenceIdeal [hPre_finite_in_range_ReferenceIdeal : Cert.Pre_finite_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_in_range_KernelIdeal [hKernelIdeal : Cert.KernelIdeal.Facts] [hPre_finite_in_range_KernelIdeal : Cert.Pre_finite_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_in_range_ReferenceIdeal [hReferenceIdeal : Cert.ReferenceIdeal.Facts] [hPre_finite_in_range_ReferenceIdeal : Cert.Pre_finite_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_in_range_KernelIdeal [hKernelIdeal : Cert.KernelIdeal.Facts] [hReferenceIdeal : Cert.ReferenceIdeal.Facts] [hPre_finite_in_range_KernelIdeal : Cert.Pre_finite_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 128, 256]⟩ ⟨3, ![16, 128, 256]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_in_range_KernelIdeal : Cert.Pre_finite_in_range_KernelIdeal.Facts) (hPre_finite_in_range_ReferenceIdeal : Cert.Pre_finite_in_range_ReferenceIdeal.Facts),
    quiescent_Kernel (hKernel := hKernel)
    ∧ quiescent_KernelIdeal (hKernelIdeal := hKernelIdeal)
    ∧ quiescent_KernelIdeal_pre_finite_in_range_KernelIdeal (hKernelIdeal := hKernelIdeal) (hPre_finite_in_range_KernelIdeal := hPre_finite_in_range_KernelIdeal)
    ∧ quiescent_ReferenceIdeal (hReferenceIdeal := hReferenceIdeal)
    ∧ quiescent_ReferenceIdeal_pre_finite_in_range_ReferenceIdeal (hReferenceIdeal := hReferenceIdeal) (hPre_finite_in_range_ReferenceIdeal := hPre_finite_in_range_ReferenceIdeal)
    ∧ preserves_Kernel_KernelIdeal
    ∧ algebraic_KernelIdeal_ReferenceIdeal_pre_finite_in_range_KernelIdeal (hKernelIdeal := hKernelIdeal) (hReferenceIdeal := hReferenceIdeal) (hPre_finite_in_range_KernelIdeal := hPre_finite_in_range_KernelIdeal)
-- ==== Pre_finite_in_range_KernelIdeal.lean ====
abbrev S256x128 : Shape := ⟨2, ![256, 128]⟩
abbrev S128x16 : Shape := ⟨2, ![128, 16]⟩
abbrev S256x2 : Shape := ⟨2, ![256, 2]⟩
abbrev S2x128x256 : Shape := ⟨3, ![2, 128, 256]⟩
abbrev S_ : Shape := ⟨0, ![]⟩
abbrev S256x128x1x1 : Shape := ⟨4, ![256, 128, 1, 1]⟩
abbrev S1x128x16x1 : Shape := ⟨4, ![1, 128, 16, 1]⟩
abbrev S256x128x16x1 : Shape := ⟨4, ![256, 128, 16, 1]⟩
abbrev S256x1x1x2 : Shape := ⟨4, ![256, 1, 1, 2]⟩
abbrev S256x128x16x2 : Shape := ⟨4, ![256, 128, 16, 2]⟩

class Facts : Prop where
  bcast_S_S256x128 : S_.BroadcastsInDim S256x128 (![] : Fin 0 → Fin S256x128.rank)
  bcast_S_S128x16 : S_.BroadcastsInDim S128x16 (![] : Fin 0 → Fin S128x16.rank)
  bcast_S_S256x2 : S_.BroadcastsInDim S256x2 (![] : Fin 0 → Fin S256x2.rank)
  bcast_S256x128_S256x128x1x1_0_1 : S256x128.BroadcastsInDim S256x128x1x1 (![0, 1] : Fin 2 → Fin S256x128x1x1.rank)
  bcast_S128x16_S1x128x16x1_1_2 : S128x16.BroadcastsInDim S1x128x16x1 (![1, 2] : Fin 2 → Fin S1x128x16x1.rank)
  bcast_S256x128x1x1_S256x128x16x1_0_1_2_3 : S256x128x1x1.BroadcastsInDim S256x128x16x1 (![0, 1, 2, 3] : Fin 4 → Fin S256x128x16x1.rank)
  bcast_S1x128x16x1_S256x128x16x1_0_1_2_3 : S1x128x16x1.BroadcastsInDim S256x128x16x1 (![0, 1, 2, 3] : Fin 4 → Fin S256x128x16x1.rank)
  bcast_S256x2_S256x1x1x2_0_3 : S256x2.BroadcastsInDim S256x1x1x2 (![0, 3] : Fin 2 → Fin S256x1x1x2.rank)
  bcast_S256x128x16x1_S256x128x16x2_0_1_2_3 : S256x128x16x1.BroadcastsInDim S256x128x16x2 (![0, 1, 2, 3] : Fin 4 → Fin S256x128x16x2.rank)
  bcast_S256x1x1x2_S256x128x16x2_0_1_2_3 : S256x1x1x2.BroadcastsInDim S256x128x16x2 (![0, 1, 2, 3] : Fin 4 → Fin S256x128x16x2.rank)

variable [Facts]

def fn {F : FTy → Type} [FloatOps F] (main_arg0 : FVec F S256x128 .f32) (main_arg1 : FVec F S128x16 .f32) (main_arg2 : IVec S256x2 32) (main_arg3 : FVec F S2x128x256 .f32) : IVec S256x128x16x2 1 :=
  let main_v0 : FVec F S256x128 .f32 := Host.absf main_arg0
  let main_cst : FVec F S_ .f32 := constant S_ .f32 0x7F800000#32
  let main_v1 : FVec F S256x128 .f32 := broadcastInDim S256x128 ![] bcast_S_S256x128 main_cst
  let main_v2 : IVec S256x128 1 := cmpf .olt main_v0 main_v1
  let main_v3 : FVec F S128x16 .f32 := Host.absf main_arg1
  let main_cst_0 : FVec F S_ .f32 := constant S_ .f32 0x7F800000#32
  let main_v4 : FVec F S128x16 .f32 := broadcastInDim S128x16 ![] bcast_S_S128x16 main_cst_0
  let main_v5 : IVec S128x16 1 := cmpf .olt main_v3 main_v4
  let main_c : IVec S_ 32 := constantI S_ 32 0#32
  let main_v6 : IVec S256x2 32 := broadcastInDim S256x2 ![] bcast_S_S256x2 main_c
  let main_v7 : IVec S256x2 1 := cmpi .sge main_arg2 main_v6
  let main_c_1 : IVec S_ 32 := constantI S_ 32 16#32
  let main_v8 : IVec S256x2 32 := broadcastInDim S256x2 ![] bcast_S_S256x2 main_c_1
  let main_v9 : IVec S256x2 1 := cmpi .slt main_arg2 main_v8
  let main_v10 : IVec S256x2 1 := andi main_v7 main_v9
  let main_v11 : IVec S256x128x1x1 1 := broadcastInDim S256x128x1x1 ![0, 1] bcast_S256x128_S256x128x1x1_0_1 main_v2
  let main_v12 : IVec S1x128x16x1 1 := broadcastInDim S1x128x16x1 ![1, 2] bcast_S128x16_S1x128x16x1_1_2 main_v5
  let main_v13 : IVec S256x128x16x1 1 := broadcastInDim S256x128x16x1 ![0, 1, 2, 3] bcast_S256x128x1x1_S256x128x16x1_0_1_2_3 main_v11
  let main_v14 : IVec S256x128x16x1 1 := broadcastInDim S256x128x16x1 ![0, 1, 2, 3] bcast_S1x128x16x1_S256x128x16x1_0_1_2_3 main_v12
  let main_v15 : IVec S256x128x16x1 1 := andi main_v13 main_v14
  let main_v16 : IVec S256x1x1x2 1 := broadcastInDim S256x1x1x2 ![0, 3] bcast_S256x2_S256x1x1x2_0_3 main_v10
  let main_v17 : IVec S256x128x16x2 1 := broadcastInDim S256x128x16x2 ![0, 1, 2, 3] bcast_S256x128x16x1_S256x128x16x2_0_1_2_3 main_v15
  let main_v18 : IVec S256x128x16x2 1 := broadcastInDim S256x128x16x2 ![0, 1, 2, 3] bcast_S256x1x1x2_S256x128x16x2_0_1_2_3 main_v16
  let main_v19 : IVec S256x128x16x2 1 := andi main_v17 main_v18
  main_v19
-- ==== Pre_finite_in_range_ReferenceIdeal.lean ====
abbrev S256x128 : Shape := ⟨2, ![256, 128]⟩
abbrev S128x16 : Shape := ⟨2, ![128, 16]⟩
abbrev S256x2 : Shape := ⟨2, ![256, 2]⟩
abbrev S16x128x256 : Shape := ⟨3, ![16, 128, 256]⟩
abbrev S_ : Shape := ⟨0, ![]⟩
abbrev S256x128x1x1 : Shape := ⟨4, ![256, 128, 1, 1]⟩
abbrev S1x128x16x1 : Shape := ⟨4, ![1, 128, 16, 1]⟩
abbrev S256x128x16x1 : Shape := ⟨4, ![256, 128, 16, 1]⟩
abbrev S256x1x1x2 : Shape := ⟨4, ![256, 1, 1, 2]⟩
abbrev S256x128x16x2 : Shape := ⟨4, ![256, 128, 16, 2]⟩

class Facts : Prop where
  bcast_S_S256x128 : S_.BroadcastsInDim S256x128 (![] : Fin 0 → Fin S256x128.rank)
  bcast_S_S128x16 : S_.BroadcastsInDim S128x16 (![] : Fin 0 → Fin S128x16.rank)
  bcast_S_S256x2 : S_.BroadcastsInDim S256x2 (![] : Fin 0 → Fin S256x2.rank)
  bcast_S256x128_S256x128x1x1_0_1 : S256x128.BroadcastsInDim S256x128x1x1 (![0, 1] : Fin 2 → Fin S256x128x1x1.rank)
  bcast_S128x16_S1x128x16x1_1_2 : S128x16.BroadcastsInDim S1x128x16x1 (![1, 2] : Fin 2 → Fin S1x128x16x1.rank)
  bcast_S256x128x1x1_S256x128x16x1_0_1_2_3 : S256x128x1x1.BroadcastsInDim S256x128x16x1 (![0, 1, 2, 3] : Fin 4 → Fin S256x128x16x1.rank)
  bcast_S1x128x16x1_S256x128x16x1_0_1_2_3 : S1x128x16x1.BroadcastsInDim S256x128x16x1 (![0, 1, 2, 3] : Fin 4 → Fin S256x128x16x1.rank)
  bcast_S256x2_S256x1x1x2_0_3 : S256x2.BroadcastsInDim S256x1x1x2 (![0, 3] : Fin 2 → Fin S256x1x1x2.rank)
  bcast_S256x128x16x1_S256x128x16x2_0_1_2_3 : S256x128x16x1.BroadcastsInDim S256x128x16x2 (![0, 1, 2, 3] : Fin 4 → Fin S256x128x16x2.rank)
  bcast_S256x1x1x2_S256x128x16x2_0_1_2_3 : S256x1x1x2.BroadcastsInDim S256x128x16x2 (![0, 1, 2, 3] : Fin 4 → Fin S256x128x16x2.rank)

variable [Facts]

def fn {F : FTy → Type} [FloatOps F] (main_arg0 : FVec F S256x128 .f32) (main_arg1 : FVec F S128x16 .f32) (main_arg2 : IVec S256x2 32) (main_arg3 : FVec F S16x128x256 .f32) : IVec S256x128x16x2 1 :=
  let main_v0 : FVec F S256x128 .f32 := Host.absf main_arg0
  let main_cst : FVec F S_ .f32 := constant S_ .f32 0x7F800000#32
  let main_v1 : FVec F S256x128 .f32 := broadcastInDim S256x128 ![] bcast_S_S256x128 main_cst
  let main_v2 : IVec S256x128 1 := cmpf .olt main_v0 main_v1
  let main_v3 : FVec F S128x16 .f32 := Host.absf main_arg1
  let main_cst_0 : FVec F S_ .f32 := constant S_ .f32 0x7F800000#32
  let main_v4 : FVec F S128x16 .f32 := broadcastInDim S128x16 ![] bcast_S_S128x16 main_cst_0
  let main_v5 : IVec S128x16 1 := cmpf .olt main_v3 main_v4
  let main_c : IVec S_ 32 := constantI S_ 32 0#32
  let main_v6 : IVec S256x2 32 := broadcastInDim S256x2 ![] bcast_S_S256x2 main_c
  let main_v7 : IVec S256x2 1 := cmpi .sge main_arg2 main_v6
  let main_c_1 : IVec S_ 32 := constantI S_ 32 16#32
  let main_v8 : IVec S256x2 32 := broadcastInDim S256x2 ![] bcast_S_S256x2 main_c_1
  let main_v9 : IVec S256x2 1 := cmpi .slt main_arg2 main_v8
  let main_v10 : IVec S256x2 1 := andi main_v7 main_v9
  let main_v11 : IVec S256x128x1x1 1 := broadcastInDim S256x128x1x1 ![0, 1] bcast_S256x128_S256x128x1x1_0_1 main_v2
  let main_v12 : IVec S1x128x16x1 1 := broadcastInDim S1x128x16x1 ![1, 2] bcast_S128x16_S1x128x16x1_1_2 main_v5
  let main_v13 : IVec S256x128x16x1 1 := broadcastInDim S256x128x16x1 ![0, 1, 2, 3] bcast_S256x128x1x1_S256x128x16x1_0_1_2_3 main_v11
  let main_v14 : IVec S256x128x16x1 1 := broadcastInDim S256x128x16x1 ![0, 1, 2, 3] bcast_S1x128x16x1_S256x128x16x1_0_1_2_3 main_v12
  let main_v15 : IVec S256x128x16x1 1 := andi main_v13 main_v14
  let main_v16 : IVec S256x1x1x2 1 := broadcastInDim S256x1x1x2 ![0, 3] bcast_S256x2_S256x1x1x2_0_3 main_v10
  let main_v17 : IVec S256x128x16x2 1 := broadcastInDim S256x128x16x2 ![0, 1, 2, 3] bcast_S256x128x16x1_S256x128x16x2_0_1_2_3 main_v15
  let main_v18 : IVec S256x128x16x2 1 := broadcastInDim S256x128x16x2 ![0, 1, 2, 3] bcast_S256x1x1x2_S256x128x16x2_0_1_2_3 main_v16
  let main_v19 : IVec S256x128x16x2 1 := andi main_v17 main_v18
  main_v19
-- ==== Kernel.lean ====
abbrev S256x128 : Shape := ⟨2, ![256, 128]⟩
abbrev S128x16 : Shape := ⟨2, ![128, 16]⟩
abbrev S256x2 : Shape := ⟨2, ![256, 2]⟩
abbrev S2x128x256 : Shape := ⟨3, ![2, 128, 256]⟩
abbrev S256x256 : Shape := ⟨2, ![256, 256]⟩
abbrev S8x32x256 : Shape := ⟨3, ![8, 32, 256]⟩
abbrev S32x256 : Shape := ⟨2, ![32, 256]⟩
abbrev S8 : Shape := ⟨1, ![8]⟩
abbrev S_ : Shape := ⟨0, ![]⟩
abbrev S256x16 : Shape := ⟨2, ![256, 16]⟩
abbrev S256 : Shape := ⟨1, ![256]⟩
abbrev S256x1 : Shape := ⟨2, ![256, 1]⟩
abbrev S1x128x256 : Shape := ⟨3, ![1, 128, 256]⟩
abbrev S128x256 : Shape := ⟨2, ![128, 256]⟩
abbrev S1 : Shape := ⟨1, ![1]⟩
abbrev S1x32x256 : Shape := ⟨3, ![1, 32, 256]⟩

abbrev nBuf : Space → Nat
  | .hbm => 5
  | .vmem => 9
  | .smem => 0
  | _ => 0

abbrev bufTy : (tb : Table) → Fin (tcTables nBuf tb) → BufTy
  | .hbm, ⟨0, _⟩ => ⟨S256x128, .f32⟩
  | .hbm, ⟨1, _⟩ => ⟨S128x16, .f32⟩
  | .hbm, ⟨2, _⟩ => ⟨S256x2, .i32⟩
  | .hbm, ⟨3, _⟩ => ⟨S2x128x256, .f32⟩
  | .hbm, ⟨4, _⟩ => ⟨S256x256, .f32⟩
  | .local _ .vmem, ⟨0, _⟩ => ⟨S256x128, .f32⟩
  | .local _ .vmem, ⟨1, _⟩ => ⟨S128x16, .f32⟩
  | .local _ .vmem, ⟨2, _⟩ => ⟨S256x2, .i32⟩
  | .local _ .vmem, ⟨3, _⟩ => ⟨S2x128x256, .f32⟩
  | .local _ .vmem, ⟨4, _⟩ => ⟨S256x256, .f32⟩
  | .local _ .vmem, ⟨5, _⟩ => ⟨S256x256, .bf16⟩
  | .local _ .vmem, ⟨6, _⟩ => ⟨S8x32x256, .bf16⟩
  | .local _ .vmem, ⟨7, _⟩ => ⟨S32x256, .bf16⟩
  | .local _ .vmem, ⟨8, _⟩ => ⟨S8x32x256, .bf16⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_107 : BitVec 32 := 0#32
  let c0_i32_108 : BitVec 32 := 0#32
  ![v2.toNat, 0, 0]
def k0_off3 (d0 : Dev nD) (c1_i32_97 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v171 : BitVec 32 := Scalar.addi v2 c1_i32_97
  let c8_i32_98 : BitVec 32 := 8#32
  let c0_i32_99 : BitVec 32 := 0#32
  let v172 : BitVec 1 := Scalar.cmpi .eq c8_i32_98 c0_i32_99
  let c1_i32_100 : BitVec 32 := 1#32
  let v173 : BitVec 32 := Scalar.select v172 c1_i32_100 c8_i32_98
  let v174 : BitVec 32 := Scalar.remsi v171 v173
  let c0_i32_102 : BitVec 32 := 0#32
  let v176 : BitVec 1 := Scalar.cmpi .slt v174 c0_i32_102
  let c0_i32_103 : BitVec 32 := 0#32
  let v177 : BitVec 1 := Scalar.cmpi .slt v173 c0_i32_103
  let v178 : BitVec 1 := Scalar.xori v176 v177
  let c0_i32_101 : BitVec 32 := 0#32
  let v175 : BitVec 1 := Scalar.cmpi .ne v174 c0_i32_101
  let v179 : BitVec 1 := Scalar.andi v178 v175
  let v180 : BitVec 32 := Scalar.addi v174 v173
  let v181 : BitVec 32 := Scalar.select v179 v180 v174
  let c32_i32 : BitVec 32 := 32#32
  let v182 : BitVec 32 := Scalar.muli v181 c32_i32
  let c0_i32_109 : BitVec 32 := 0#32
  ![v182.toNat, 0]
def k0_dev8 (d0 : Dev nD) : Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_97 : BitVec 32 := 1#32
  let v171 : BitVec 32 := Scalar.addi v2 c1_i32_97
  let c8_i32_98 : BitVec 32 := 8#32
  let c0_i32_99 : BitVec 32 := 0#32
  let v172 : BitVec 1 := Scalar.cmpi .eq c8_i32_98 c0_i32_99
  let c1_i32_100 : BitVec 32 := 1#32
  let v173 : BitVec 32 := Scalar.select v172 c1_i32_100 c8_i32_98
  let v174 : BitVec 32 := Scalar.remsi v171 v173
  let c0_i32_102 : BitVec 32 := 0#32
  let v176 : BitVec 1 := Scalar.cmpi .slt v174 c0_i32_102
  let c0_i32_103 : BitVec 32 := 0#32
  let v177 : BitVec 1 := Scalar.cmpi .slt v173 c0_i32_103
  let v178 : BitVec 1 := Scalar.xori v176 v177
  let c0_i32_101 : BitVec 32 := 0#32
  let v175 : BitVec 1 := Scalar.cmpi .ne v174 c0_i32_101
  let v179 : BitVec 1 := Scalar.andi v178 v175
  let v180 : BitVec 32 := Scalar.addi v174 v173
  let v181 : BitVec 32 := Scalar.select v179 v180 v174
  let c1_i32_105 : BitVec 32 := 1#32
  let v183 : BitVec 32 := Scalar.muli v181 c1_i32_105
  let v184 : BitVec 32 := Scalar.addi c0_i32_106 v183
  v184.toNat
def k0_dev9 (d0 : Dev nD) : Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_110 : BitVec 32 := 2#32
  let v192 : BitVec 32 := Scalar.addi v2 c2_i32_110
  let c8_i32_111 : BitVec 32 := 8#32
  let c0_i32_112 : BitVec 32 := 0#32
  let v193 : BitVec 1 := Scalar.cmpi .eq c8_i32_111 c0_i32_112
  let c1_i32_113 : BitVec 32 := 1#32
  let v194 : BitVec 32 := Scalar.select v193 c1_i32_113 c8_i32_111
  let v195 : BitVec 32 := Scalar.remsi v192 v194
  let c0_i32_115 : BitVec 32 := 0#32
  let v197 : BitVec 1 := Scalar.cmpi .slt v195 c0_i32_115
  let c0_i32_116 : BitVec 32 := 0#32
  let v198 : BitVec 1 := Scalar.cmpi .slt v194 c0_i32_116
  let v199 : BitVec 1 := Scalar.xori v197 v198
  let c0_i32_114 : BitVec 32 := 0#32
  let v196 : BitVec 1 := Scalar.cmpi .ne v195 c0_i32_114
  let v200 : BitVec 1 := Scalar.andi v199 v196
  let v201 : BitVec 32 := Scalar.addi v195 v194
  let v202 : BitVec 32 := Scalar.select v200 v201 v195
  let c1_i32_119 : BitVec 32 := 1#32
  let v204 : BitVec 32 := Scalar.muli v202 c1_i32_119
  let v205 : BitVec 32 := Scalar.addi c0_i32_120 v204
  v205.toNat
def k0_dev10 (d0 : Dev nD) : Nat :=
  let c0_i32_134 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_124 : BitVec 32 := 3#32
  let v213 : BitVec 32 := Scalar.addi v2 c3_i32_124
  let c8_i32_125 : BitVec 32 := 8#32
  let c0_i32_126 : BitVec 32 := 0#32
  let v214 : BitVec 1 := Scalar.cmpi .eq c8_i32_125 c0_i32_126
  let c1_i32_127 : BitVec 32 := 1#32
  let v215 : BitVec 32 := Scalar.select v214 c1_i32_127 c8_i32_125
  let v216 : BitVec 32 := Scalar.remsi v213 v215
  let c0_i32_129 : BitVec 32 := 0#32
  let v218 : BitVec 1 := Scalar.cmpi .slt v216 c0_i32_129
  let c0_i32_130 : BitVec 32 := 0#32
  let v219 : BitVec 1 := Scalar.cmpi .slt v215 c0_i32_130
  let v220 : BitVec 1 := Scalar.xori v218 v219
  let c0_i32_128 : BitVec 32 := 0#32
  let v217 : BitVec 1 := Scalar.cmpi .ne v216 c0_i32_128
  let v221 : BitVec 1 := Scalar.andi v220 v217
  let v222 : BitVec 32 := Scalar.addi v216 v215
  let v223 : BitVec 32 := Scalar.select v221 v222 v216
  let c1_i32_133 : BitVec 32 := 1#32
  let v225 : BitVec 32 := Scalar.muli v223 c1_i32_133
  let v226 : BitVec 32 := Scalar.addi c0_i32_134 v225
  v226.toNat
def k0_dev11 (d0 : Dev nD) : Nat :=
  let c0_i32_148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_138 : BitVec 32 := 4#32
  let v234 : BitVec 32 := Scalar.addi v2 c4_i32_138
  let c8_i32_139 : BitVec 32 := 8#32
  let c0_i32_140 : BitVec 32 := 0#32
  let v235 : BitVec 1 := Scalar.cmpi .eq c8_i32_139 c0_i32_140
  let c1_i32_141 : BitVec 32 := 1#32
  let v236 : BitVec 32 := Scalar.select v235 c1_i32_141 c8_i32_139
  let v237 : BitVec 32 := Scalar.remsi v234 v236
  let c0_i32_143 : BitVec 32 := 0#32
  let v239 : BitVec 1 := Scalar.cmpi .slt v237 c0_i32_143
  let c0_i32_144 : BitVec 32 := 0#32
  let v240 : BitVec 1 := Scalar.cmpi .slt v236 c0_i32_144
  let v241 : BitVec 1 := Scalar.xori v239 v240
  let c0_i32_142 : BitVec 32 := 0#32
  let v238 : BitVec 1 := Scalar.cmpi .ne v237 c0_i32_142
  let v242 : BitVec 1 := Scalar.andi v241 v238
  let v243 : BitVec 32 := Scalar.addi v237 v236
  let v244 : BitVec 32 := Scalar.select v242 v243 v237
  let c1_i32_147 : BitVec 32 := 1#32
  let v246 : BitVec 32 := Scalar.muli v244 c1_i32_147
  let v247 : BitVec 32 := Scalar.addi c0_i32_148 v246
  v247.toNat
def k0_dev12 (d0 : Dev nD) : Nat :=
  let c0_i32_162 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_152 : BitVec 32 := 5#32
  let v255 : BitVec 32 := Scalar.addi v2 c5_i32_152
  let c8_i32_153 : BitVec 32 := 8#32
  let c0_i32_154 : BitVec 32 := 0#32
  let v256 : BitVec 1 := Scalar.cmpi .eq c8_i32_153 c0_i32_154
  let c1_i32_155 : BitVec 32 := 1#32
  let v257 : BitVec 32 := Scalar.select v256 c1_i32_155 c8_i32_153
  let v258 : BitVec 32 := Scalar.remsi v255 v257
  let c0_i32_157 : BitVec 32 := 0#32
  let v260 : BitVec 1 := Scalar.cmpi .slt v258 c0_i32_157
  let c0_i32_158 : BitVec 32 := 0#32
  let v261 : BitVec 1 := Scalar.cmpi .slt v257 c0_i32_158
  let v262 : BitVec 1 := Scalar.xori v260 v261
  let c0_i32_156 : BitVec 32 := 0#32
  let v259 : BitVec 1 := Scalar.cmpi .ne v258 c0_i32_156
  let v263 : BitVec 1 := Scalar.andi v262 v259
  let v264 : BitVec 32 := Scalar.addi v258 v257
  let v265 : BitVec 32 := Scalar.select v263 v264 v258
  let c1_i32_161 : BitVec 32 := 1#32
  let v267 : BitVec 32 := Scalar.muli v265 c1_i32_161
  let v268 : BitVec 32 := Scalar.addi c0_i32_162 v267
  v268.toNat
def k0_dev13 (d0 : Dev nD) : Nat :=
  let c0_i32_176 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_166 : BitVec 32 := 6#32
  let v276 : BitVec 32 := Scalar.addi v2 c6_i32_166
  let c8_i32_167 : BitVec 32 := 8#32
  let c0_i32_168 : BitVec 32 := 0#32
  let v277 : BitVec 1 := Scalar.cmpi .eq c8_i32_167 c0_i32_168
  let c1_i32_169 : BitVec 32 := 1#32
  let v278 : BitVec 32 := Scalar.select v277 c1_i32_169 c8_i32_167
  let v279 : BitVec 32 := Scalar.remsi v276 v278
  let c0_i32_171 : BitVec 32 := 0#32
  let v281 : BitVec 1 := Scalar.cmpi .slt v279 c0_i32_171
  let c0_i32_172 : BitVec 32 := 0#32
  let v282 : BitVec 1 := Scalar.cmpi .slt v278 c0_i32_172
  let v283 : BitVec 1 := Scalar.xori v281 v282
  let c0_i32_170 : BitVec 32 := 0#32
  let v280 : BitVec 1 := Scalar.cmpi .ne v279 c0_i32_170
  let v284 : BitVec 1 := Scalar.andi v283 v280
  let v285 : BitVec 32 := Scalar.addi v279 v278
  let v286 : BitVec 32 := Scalar.select v284 v285 v279
  let c1_i32_175 : BitVec 32 := 1#32
  let v288 : BitVec 32 := Scalar.muli v286 c1_i32_175
  let v289 : BitVec 32 := Scalar.addi c0_i32_176 v288
  v289.toNat
def k0_dev14 (d0 : Dev nD) : Nat :=
  let c0_i32_190 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_180 : BitVec 32 := 7#32
  let v297 : BitVec 32 := Scalar.addi v2 c7_i32_180
  let c8_i32_181 : BitVec 32 := 8#32
  let c0_i32_182 : BitVec 32 := 0#32
  let v298 : BitVec 1 := Scalar.cmpi .eq c8_i32_181 c0_i32_182
  let c1_i32_183 : BitVec 32 := 1#32
  let v299 : BitVec 32 := Scalar.select v298 c1_i32_183 c8_i32_181
  let v300 : BitVec 32 := Scalar.remsi v297 v299
  let c0_i32_185 : BitVec 32 := 0#32
  let v302 : BitVec 1 := Scalar.cmpi .slt v300 c0_i32_185
  let c0_i32_186 : BitVec 32 := 0#32
  let v303 : BitVec 1 := Scalar.cmpi .slt v299 c0_i32_186
  let v304 : BitVec 1 := Scalar.xori v302 v303
  let c0_i32_184 : BitVec 32 := 0#32
  let v301 : BitVec 1 := Scalar.cmpi .ne v300 c0_i32_184
  let v305 : BitVec 1 := Scalar.andi v304 v301
  let v306 : BitVec 32 := Scalar.addi v300 v299
  let v307 : BitVec 32 := Scalar.select v305 v306 v300
  let c1_i32_189 : BitVec 32 := 1#32
  let v309 : BitVec 32 := Scalar.muli v307 c1_i32_189
  let v310 : BitVec 32 := Scalar.addi c0_i32_190 v309
  v310.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_194 : BitVec 32 := 32#32
  let v318 : BitVec 32 := Scalar.muli v2 c32_i32_194
  let v319 : Index := Scalar.indexCast v318
  let c0_195 : Index := 0#32
  ![v319.toNat, 0]
def k0_off5 (d0 : Dev nD) (c1_i32_196 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v322 : BitVec 32 := Scalar.addi v2 c1_i32_196
  let c8_i32_197 : BitVec 32 := 8#32
  let c0_i32_198 : BitVec 32 := 0#32
  let v323 : BitVec 1 := Scalar.cmpi .eq c8_i32_197 c0_i32_198
  let c1_i32_199 : BitVec 32 := 1#32
  let v324 : BitVec 32 := Scalar.select v323 c1_i32_199 c8_i32_197
  let v325 : BitVec 32 := Scalar.remsi v322 v324
  let c0_i32_201 : BitVec 32 := 0#32
  let v327 : BitVec 1 := Scalar.cmpi .slt v325 c0_i32_201
  let c0_i32_202 : BitVec 32 := 0#32
  let v328 : BitVec 1 := Scalar.cmpi .slt v324 c0_i32_202
  let v329 : BitVec 1 := Scalar.xori v327 v328
  let c0_i32_200 : BitVec 32 := 0#32
  let v326 : BitVec 1 := Scalar.cmpi .ne v325 c0_i32_200
  let v330 : BitVec 1 := Scalar.andi v329 v326
  let v331 : BitVec 32 := Scalar.addi v325 v324
  let v332 : BitVec 32 := Scalar.select v330 v331 v325
  ![v332.toNat]
def k0_off6 (d0 : Dev nD) (c1_i32_196 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v322 : BitVec 32 := Scalar.addi v2 c1_i32_196
  let c8_i32_197 : BitVec 32 := 8#32
  let c0_i32_198 : BitVec 32 := 0#32
  let v323 : BitVec 1 := Scalar.cmpi .eq c8_i32_197 c0_i32_198
  let c1_i32_199 : BitVec 32 := 1#32
  let v324 : BitVec 32 := Scalar.select v323 c1_i32_199 c8_i32_197
  let v325 : BitVec 32 := Scalar.remsi v322 v324
  let c0_i32_201 : BitVec 32 := 0#32
  let v327 : BitVec 1 := Scalar.cmpi .slt v325 c0_i32_201
  let c0_i32_202 : BitVec 32 := 0#32
  let v328 : BitVec 1 := Scalar.cmpi .slt v324 c0_i32_202
  let v329 : BitVec 1 := Scalar.xori v327 v328
  let c0_i32_200 : BitVec 32 := 0#32
  let v326 : BitVec 1 := Scalar.cmpi .ne v325 c0_i32_200
  let v330 : BitVec 1 := Scalar.andi v329 v326
  let v331 : BitVec 32 := Scalar.addi v325 v324
  let v332 : BitVec 32 := Scalar.select v330 v331 v325
  let c0_i32_206 : BitVec 32 := 0#32
  let c0_i32_207 : BitVec 32 := 0#32
  ![v332.toNat, 0, 0]
def k0_off7 (d0 : Dev nD) (c1_i32_196 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v322 : BitVec 32 := Scalar.addi v2 c1_i32_196
  let c8_i32_197 : BitVec 32 := 8#32
  let c0_i32_198 : BitVec 32 := 0#32
  let v323 : BitVec 1 := Scalar.cmpi .eq c8_i32_197 c0_i32_198
  let c1_i32_199 : BitVec 32 := 1#32
  let v324 : BitVec 32 := Scalar.select v323 c1_i32_199 c8_i32_197
  let v325 : BitVec 32 := Scalar.remsi v322 v324
  let c0_i32_201 : BitVec 32 := 0#32
  let v327 : BitVec 1 := Scalar.cmpi .slt v325 c0_i32_201
  let c0_i32_202 : BitVec 32 := 0#32
  let v328 : BitVec 1 := Scalar.cmpi .slt v324 c0_i32_202
  let v329 : BitVec 1 := Scalar.xori v327 v328
  let c0_i32_200 : BitVec 32 := 0#32
  let v326 : BitVec 1 := Scalar.cmpi .ne v325 c0_i32_200
  let v330 : BitVec 1 := Scalar.andi v329 v326
  let v331 : BitVec 32 := Scalar.addi v325 v324
  let v332 : BitVec 32 := Scalar.select v330 v331 v325
  let v341 : Index := Scalar.indexCast v332
  let c0_210 : Index := 0#32
  let c0_211 : Index := 0#32
  ![v341.toNat, 0, 0]
def k0_dev15 (d0 : Dev nD) : Nat :=
  let c0_i32_321 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_312 : BitVec 32 := 1#32
  let v497 : BitVec 32 := Scalar.addi v2 c1_i32_312
  let c8_i32_313 : BitVec 32 := 8#32
  let c0_i32_314 : BitVec 32 := 0#32
  let v498 : BitVec 1 := Scalar.cmpi .eq c8_i32_313 c0_i32_314
  let c1_i32_315 : BitVec 32 := 1#32
  let v499 : BitVec 32 := Scalar.select v498 c1_i32_315 c8_i32_313
  let v500 : BitVec 32 := Scalar.remsi v497 v499
  let c0_i32_317 : BitVec 32 := 0#32
  let v502 : BitVec 1 := Scalar.cmpi .slt v500 c0_i32_317
  let c0_i32_318 : BitVec 32 := 0#32
  let v503 : BitVec 1 := Scalar.cmpi .slt v499 c0_i32_318
  let v504 : BitVec 1 := Scalar.xori v502 v503
  let c0_i32_316 : BitVec 32 := 0#32
  let v501 : BitVec 1 := Scalar.cmpi .ne v500 c0_i32_316
  let v505 : BitVec 1 := Scalar.andi v504 v501
  let v506 : BitVec 32 := Scalar.addi v500 v499
  let v507 : BitVec 32 := Scalar.select v505 v506 v500
  let c1_i32_320 : BitVec 32 := 1#32
  let v508 : BitVec 32 := Scalar.muli v507 c1_i32_320
  let v509 : BitVec 32 := Scalar.addi c0_i32_321 v508
  v509.toNat
def k0_dev16 (d0 : Dev nD) : Nat :=
  let c0_i32_333 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_324 : BitVec 32 := 2#32
  let v516 : BitVec 32 := Scalar.addi v2 c2_i32_324
  let c8_i32_325 : BitVec 32 := 8#32
  let c0_i32_326 : BitVec 32 := 0#32
  let v517 : BitVec 1 := Scalar.cmpi .eq c8_i32_325 c0_i32_326
  let c1_i32_327 : BitVec 32 := 1#32
  let v518 : BitVec 32 := Scalar.select v517 c1_i32_327 c8_i32_325
  let v519 : BitVec 32 := Scalar.remsi v516 v518
  let c0_i32_329 : BitVec 32 := 0#32
  let v521 : BitVec 1 := Scalar.cmpi .slt v519 c0_i32_329
  let c0_i32_330 : BitVec 32 := 0#32
  let v522 : BitVec 1 := Scalar.cmpi .slt v518 c0_i32_330
  let v523 : BitVec 1 := Scalar.xori v521 v522
  let c0_i32_328 : BitVec 32 := 0#32
  let v520 : BitVec 1 := Scalar.cmpi .ne v519 c0_i32_328
  let v524 : BitVec 1 := Scalar.andi v523 v520
  let v525 : BitVec 32 := Scalar.addi v519 v518
  let v526 : BitVec 32 := Scalar.select v524 v525 v519
  let c1_i32_332 : BitVec 32 := 1#32
  let v527 : BitVec 32 := Scalar.muli v526 c1_i32_332
  let v528 : BitVec 32 := Scalar.addi c0_i32_333 v527
  v528.toNat
def k0_dev17 (d0 : Dev nD) : Nat :=
  let c0_i32_345 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_336 : BitVec 32 := 3#32
  let v535 : BitVec 32 := Scalar.addi v2 c3_i32_336
  let c8_i32_337 : BitVec 32 := 8#32
  let c0_i32_338 : BitVec 32 := 0#32
  let v536 : BitVec 1 := Scalar.cmpi .eq c8_i32_337 c0_i32_338
  let c1_i32_339 : BitVec 32 := 1#32
  let v537 : BitVec 32 := Scalar.select v536 c1_i32_339 c8_i32_337
  let v538 : BitVec 32 := Scalar.remsi v535 v537
  let c0_i32_341 : BitVec 32 := 0#32
  let v540 : BitVec 1 := Scalar.cmpi .slt v538 c0_i32_341
  let c0_i32_342 : BitVec 32 := 0#32
  let v541 : BitVec 1 := Scalar.cmpi .slt v537 c0_i32_342
  let v542 : BitVec 1 := Scalar.xori v540 v541
  let c0_i32_340 : BitVec 32 := 0#32
  let v539 : BitVec 1 := Scalar.cmpi .ne v538 c0_i32_340
  let v543 : BitVec 1 := Scalar.andi v542 v539
  let v544 : BitVec 32 := Scalar.addi v538 v537
  let v545 : BitVec 32 := Scalar.select v543 v544 v538
  let c1_i32_344 : BitVec 32 := 1#32
  let v546 : BitVec 32 := Scalar.muli v545 c1_i32_344
  let v547 : BitVec 32 := Scalar.addi c0_i32_345 v546
  v547.toNat
def k0_dev18 (d0 : Dev nD) : Nat :=
  let c0_i32_357 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_348 : BitVec 32 := 4#32
  let v554 : BitVec 32 := Scalar.addi v2 c4_i32_348
  let c8_i32_349 : BitVec 32 := 8#32
  let c0_i32_350 : BitVec 32 := 0#32
  let v555 : BitVec 1 := Scalar.cmpi .eq c8_i32_349 c0_i32_350
  let c1_i32_351 : BitVec 32 := 1#32
  let v556 : BitVec 32 := Scalar.select v555 c1_i32_351 c8_i32_349
  let v557 : BitVec 32 := Scalar.remsi v554 v556
  let c0_i32_353 : BitVec 32 := 0#32
  let v559 : BitVec 1 := Scalar.cmpi .slt v557 c0_i32_353
  let c0_i32_354 : BitVec 32 := 0#32
  let v560 : BitVec 1 := Scalar.cmpi .slt v556 c0_i32_354
  let v561 : BitVec 1 := Scalar.xori v559 v560
  let c0_i32_352 : BitVec 32 := 0#32
  let v558 : BitVec 1 := Scalar.cmpi .ne v557 c0_i32_352
  let v562 : BitVec 1 := Scalar.andi v561 v558
  let v563 : BitVec 32 := Scalar.addi v557 v556
  let v564 : BitVec 32 := Scalar.select v562 v563 v557
  let c1_i32_356 : BitVec 32 := 1#32
  let v565 : BitVec 32 := Scalar.muli v564 c1_i32_356
  let v566 : BitVec 32 := Scalar.addi c0_i32_357 v565
  v566.toNat
def k0_dev19 (d0 : Dev nD) : Nat :=
  let c0_i32_369 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_360 : BitVec 32 := 5#32
  let v573 : BitVec 32 := Scalar.addi v2 c5_i32_360
  let c8_i32_361 : BitVec 32 := 8#32
  let c0_i32_362 : BitVec 32 := 0#32
  let v574 : BitVec 1 := Scalar.cmpi .eq c8_i32_361 c0_i32_362
  let c1_i32_363 : BitVec 32 := 1#32
  let v575 : BitVec 32 := Scalar.select v574 c1_i32_363 c8_i32_361
  let v576 : BitVec 32 := Scalar.remsi v573 v575
  let c0_i32_365 : BitVec 32 := 0#32
  let v578 : BitVec 1 := Scalar.cmpi .slt v576 c0_i32_365
  let c0_i32_366 : BitVec 32 := 0#32
  let v579 : BitVec 1 := Scalar.cmpi .slt v575 c0_i32_366
  let v580 : BitVec 1 := Scalar.xori v578 v579
  let c0_i32_364 : BitVec 32 := 0#32
  let v577 : BitVec 1 := Scalar.cmpi .ne v576 c0_i32_364
  let v581 : BitVec 1 := Scalar.andi v580 v577
  let v582 : BitVec 32 := Scalar.addi v576 v575
  let v583 : BitVec 32 := Scalar.select v581 v582 v576
  let c1_i32_368 : BitVec 32 := 1#32
  let v584 : BitVec 32 := Scalar.muli v583 c1_i32_368
  let v585 : BitVec 32 := Scalar.addi c0_i32_369 v584
  v585.toNat
def k0_dev20 (d0 : Dev nD) : Nat :=
  let c0_i32_381 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_372 : BitVec 32 := 6#32
  let v592 : BitVec 32 := Scalar.addi v2 c6_i32_372
  let c8_i32_373 : BitVec 32 := 8#32
  let c0_i32_374 : BitVec 32 := 0#32
  let v593 : BitVec 1 := Scalar.cmpi .eq c8_i32_373 c0_i32_374
  let c1_i32_375 : BitVec 32 := 1#32
  let v594 : BitVec 32 := Scalar.select v593 c1_i32_375 c8_i32_373
  let v595 : BitVec 32 := Scalar.remsi v592 v594
  let c0_i32_377 : BitVec 32 := 0#32
  let v597 : BitVec 1 := Scalar.cmpi .slt v595 c0_i32_377
  let c0_i32_378 : BitVec 32 := 0#32
  let v598 : BitVec 1 := Scalar.cmpi .slt v594 c0_i32_378
  let v599 : BitVec 1 := Scalar.xori v597 v598
  let c0_i32_376 : BitVec 32 := 0#32
  let v596 : BitVec 1 := Scalar.cmpi .ne v595 c0_i32_376
  let v600 : BitVec 1 := Scalar.andi v599 v596
  let v601 : BitVec 32 := Scalar.addi v595 v594
  let v602 : BitVec 32 := Scalar.select v600 v601 v595
  let c1_i32_380 : BitVec 32 := 1#32
  let v603 : BitVec 32 := Scalar.muli v602 c1_i32_380
  let v604 : BitVec 32 := Scalar.addi c0_i32_381 v603
  v604.toNat
def k0_dev21 (d0 : Dev nD) : Nat :=
  let c0_i32_393 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_384 : BitVec 32 := 7#32
  let v611 : BitVec 32 := Scalar.addi v2 c7_i32_384
  let c8_i32_385 : BitVec 32 := 8#32
  let c0_i32_386 : BitVec 32 := 0#32
  let v612 : BitVec 1 := Scalar.cmpi .eq c8_i32_385 c0_i32_386
  let c1_i32_387 : BitVec 32 := 1#32
  let v613 : BitVec 32 := Scalar.select v612 c1_i32_387 c8_i32_385
  let v614 : BitVec 32 := Scalar.remsi v611 v613
  let c0_i32_389 : BitVec 32 := 0#32
  let v616 : BitVec 1 := Scalar.cmpi .slt v614 c0_i32_389
  let c0_i32_390 : BitVec 32 := 0#32
  let v617 : BitVec 1 := Scalar.cmpi .slt v613 c0_i32_390
  let v618 : BitVec 1 := Scalar.xori v616 v617
  let c0_i32_388 : BitVec 32 := 0#32
  let v615 : BitVec 1 := Scalar.cmpi .ne v614 c0_i32_388
  let v619 : BitVec 1 := Scalar.andi v618 v615
  let v620 : BitVec 32 := Scalar.addi v614 v613
  let v621 : BitVec 32 := Scalar.select v619 v620 v614
  let c1_i32_392 : BitVec 32 := 1#32
  let v622 : BitVec 32 := Scalar.muli v621 c1_i32_392
  let v623 : BitVec 32 := Scalar.addi c0_i32_393 v622
  v623.toNat
def k0_off8 (d0 : Dev nD) (c1_i32_396 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v630 : BitVec 32 := Scalar.addi v2 c1_i32_396
  let c8_i32_397 : BitVec 32 := 8#32
  let c0_i32_398 : BitVec 32 := 0#32
  let v631 : BitVec 1 := Scalar.cmpi .eq c8_i32_397 c0_i32_398
  let c1_i32_399 : BitVec 32 := 1#32
  let v632 : BitVec 32 := Scalar.select v631 c1_i32_399 c8_i32_397
  let v633 : BitVec 32 := Scalar.remsi v630 v632
  let c0_i32_401 : BitVec 32 := 0#32
  let v635 : BitVec 1 := Scalar.cmpi .slt v633 c0_i32_401
  let c0_i32_402 : BitVec 32 := 0#32
  let v636 : BitVec 1 := Scalar.cmpi .slt v632 c0_i32_402
  let v637 : BitVec 1 := Scalar.xori v635 v636
  let c0_i32_400 : BitVec 32 := 0#32
  let v634 : BitVec 1 := Scalar.cmpi .ne v633 c0_i32_400
  let v638 : BitVec 1 := Scalar.andi v637 v634
  let v639 : BitVec 32 := Scalar.addi v633 v632
  let v640 : BitVec 32 := Scalar.select v638 v639 v633
  let c32_i32_412 : BitVec 32 := 32#32
  let v653 : BitVec 32 := Scalar.muli v640 c32_i32_412
  let v654 : Index := Scalar.indexCast v653
  let c0_413 : Index := 0#32
  ![v654.toNat, 0]
abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S256x128 : Shape := ⟨2, ![256, 128]⟩
abbrev S128x16 : Shape := ⟨2, ![128, 16]⟩
abbrev S256x2 : Shape := ⟨2, ![256, 2]⟩
abbrev S16x128x256 : Shape := ⟨3, ![16, 128, 256]⟩
abbrev S256x16 : Shape := ⟨2, ![256, 16]⟩
abbrev S_ : Shape := ⟨0, ![]⟩
abbrev S256 : Shape := ⟨1, ![256]⟩
abbrev S256x1 : Shape := ⟨2, ![256, 1]⟩
abbrev S256x1x1 : Shape := ⟨3, ![256, 1, 1]⟩
abbrev S256x128x256 : Shape := ⟨3, ![256, 128, 256]⟩
abbrev S256x256 : Shape := ⟨2, ![256, 256]⟩

abbrev nBuf : Space → Nat
  | .hbm => 54
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S128x16, .f32⟩
  | .hbm, ⟨2, _⟩ => ⟨S256x2, .i32⟩
  | .hbm, ⟨3, _⟩ => ⟨S16x128x256, .f32⟩
  | .hbm, ⟨4, _⟩ => ⟨S256x16, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S256x16, .f32⟩
  | .hbm, ⟨9, _⟩ => ⟨S256x16, .f32⟩
  | .hbm, ⟨10, _⟩ => ⟨S256x16, .f32⟩
  | .hbm, ⟨11, _⟩ => ⟨S_, .f32⟩
  | .hbm, ⟨12, _⟩ => ⟨S256, .f32⟩
  | .hbm, ⟨13, _⟩ => ⟨S256x1, .f32⟩
  | .hbm, ⟨14, _⟩ => ⟨S256x16, .f32⟩
  | .hbm, ⟨15, _⟩ => ⟨S256x16, .f32⟩
  | .hbm, ⟨16, _⟩ => ⟨S256x1, .i32⟩
  | .hbm, ⟨17, _⟩ => ⟨S256, .i32⟩
  | .hbm, ⟨18, _⟩ => ⟨S256x1, .i32⟩
  | .hbm, ⟨19, _⟩ => ⟨S256, .i32⟩
  | .hbm, ⟨20, _⟩ => ⟨S256x1, .i32⟩
  | .hbm, ⟨21, _⟩ => ⟨S_, .i32⟩
  | .hbm, ⟨22, _⟩ => ⟨S256x1, .i32⟩
  | .hbm, ⟨23, _⟩ => ⟨S256x1, .i1⟩
  | .hbm, ⟨24, _⟩ => ⟨S_, .i32⟩
  | .hbm, ⟨25, _⟩ => ⟨S256x1, .i32⟩
  | .hbm, ⟨26, _⟩ => ⟨S256x1, .i32⟩
  | .hbm, ⟨27, _⟩ => ⟨S256x1, .i32⟩
  | .hbm, ⟨28, _⟩ => ⟨S256x1x1, .i32⟩
  | .hbm, ⟨29, _⟩ => ⟨S256x1, .f32⟩
  | .hbm, ⟨30, _⟩ => ⟨S256x1, .i32⟩
  | .hbm, ⟨31, _⟩ => ⟨S_, .i32⟩
  | .hbm, ⟨32, _⟩ => ⟨S256x1, .i32⟩
  | .hbm, ⟨33, _⟩ => ⟨S256x1, .i1⟩
  | .hbm, ⟨34, _⟩ => ⟨S_, .i32⟩
  | .hbm, ⟨35, _⟩ => ⟨S256x1, .i32⟩
  | .hbm, ⟨36, _⟩ => ⟨S256x1, .i32⟩
  | .hbm, ⟨37, _⟩ => ⟨S256x1, .i32⟩
  | .hbm, ⟨38, _⟩ => ⟨S256x1x1, .i32⟩
  | .hbm, ⟨39, _⟩ => ⟨S256x1, .f32⟩
  | .hbm, ⟨40, _⟩ => ⟨S256x1, .f32⟩
  | .hbm, ⟨41, _⟩ => ⟨S256x1, .i32⟩
  | .hbm, ⟨42, _⟩ => ⟨S256x128x256, .f32⟩
  | .hbm, ⟨43, _⟩ => ⟨S256x256, .f32⟩
  | .hbm, ⟨44, _⟩ => ⟨S256x1, .i32⟩
  | .hbm, ⟨45, _⟩ => ⟨S256x128x256, .f32⟩
  | .hbm, ⟨46, _⟩ => ⟨S256x256, .f32⟩
  | .hbm, ⟨47, _⟩ => ⟨S256x1, .f32⟩
  | .hbm, ⟨48, _⟩ => ⟨S256x256, .f32⟩
  | .hbm, ⟨49, _⟩ => ⟨S256x256, .f32⟩
  | .hbm, ⟨50, _⟩ => ⟨S256x1, .f32⟩
  | .hbm, ⟨51, _⟩ => ⟨S256x256, .f32⟩
  | .hbm, ⟨52, _⟩ => ⟨S256x256, .f32⟩
  | .hbm, ⟨53, _⟩ => ⟨S256x256, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_v15 : Ref sig .tc := ⟨.hbm, 29, rfl⟩
abbrev main_v16 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_v17 : Ref sig .tc := ⟨.hbm, 39, rfl⟩
abbrev main_v18 : Ref sig .tc := ⟨.hbm, 40, rfl⟩
abbrev main_call2_v0 : Ref sig .tc := ⟨.hbm, 41, rfl⟩
abbrev main_v19 : Ref sig .tc := ⟨.hbm, 42, rfl⟩
abbrev main_v20 : Ref sig .tc := ⟨.hbm, 43, rfl⟩
abbrev main_call3_v0 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩

abbrev nD : Nat := 1
abbrev τ : Topo := Topo.v7x

variable {F : FTy → Type} [FloatOps F]
-- ==== Proof.Views.lean ====
/-
# The kernel's buffers, chunks, slots and semaphore cells

Every device `c` holds a send buffer of 256 rows cut into eight chunks of 32 rows, two landing buffers of eight slots
each (one slot per device) and four families of eight transfer semaphores. This module names them and identifies the
views the program computes from its device number with these names.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Moe

open Cert.KernelIdeal Cert.KernelIdeal.Gen

open Idealize.ShloMosaic
open Idealize.ShloMosaic.TcCoe

/-! ## The devices by distance -/

theorem lt8 (c : Dev nD) : c.val < 8 := c.isLt

/-- The device `o + 1` places after `c` around the ring of eight. -/
def pr (c : Dev nD) (o : Fin 7) : Dev nD := ⟨(c.val + (o.val + 1)) % 8, Nat.mod_lt _ (by decide)⟩
/-- The distance from `pr c o` on to `c`. -/
def rv (o : Fin 7) : Fin 7 := ⟨6 - o.val, by omega⟩

theorem pr_rv (c : Dev nD) (o : Fin 7) : pr (pr c o) (rv o) = c := by
  apply Fin.ext; have := lt8 c; have := o.isLt; simp only [pr, rv]; omega
theorem pr_rv' (c : Dev nD) (o : Fin 7) : pr (pr c (rv o)) o = c := by
  apply Fin.ext; have := lt8 c; have := o.isLt; simp only [pr, rv]; omega
theorem rv_rv (o : Fin 7) : rv (rv o) = o := by
  apply Fin.ext; have := o.isLt; simp only [rv]; omega
theorem pr_ne (c : Dev nD) (o : Fin 7) : pr c o ≠ c := by
  intro h; have h' := congrArg Fin.val h; have := lt8 c; have := o.isLt; simp only [pr] at h'; omega
theorem pr_inj (c : Dev nD) {o o' : Fin 7} (h : pr c o = pr c o') : o = o' := by
  apply Fin.ext; have h' := congrArg Fin.val h; have := lt8 c; have := o.isLt; have := o'.isLt; simp only [pr] at h'; omega

/-- Walking `o + 1` places on is a bijection of the devices. -/
def shiftE (o : Fin 7) : Dev nD ≃ Dev nD := ⟨fun c => pr c o, fun c => pr c (rv o), fun c => pr_rv c o, fun c => pr_rv' c o⟩

/-! ## The memrefs -/

abbrev xM : Memref sig .tc .vmem S256x128 .f32 := Memref.whole cc0_stg0_0
abbrev wM : Memref sig .tc .vmem S128x16 .f32 := Memref.whole cc0_stg1_0
abbrev iM : Memref sig .tc .vmem S256x2 .i32 := Memref.whole cc0_stg2_0
abbrev eM : Memref sig .tc .vmem S2x128x256 .f32 := Memref.whole cc0_stg3_0
abbrev oM : Memref sig .tc .vmem S256x256 .f32 := Memref.whole cc0_stg4_0
abbrev sM : Memref sig .tc .vmem S256x256 .bf16 := Memref.whole cc0_scratch0
abbrev rM : Memref sig .tc .vmem S8x32x256 .bf16 := Memref.whole cc0_scratch1
abbrev dM : Memref sig .tc .vmem S32x256 .bf16 := Memref.whole cc0_scratch2
abbrev gM : Memref sig .tc .vmem S8x32x256 .bf16 := Memref.whole cc0_scratch3

theorem inb_chunk (d : Dev nD) : ∀ a, (![32 * d.val, 0] : Fin 2 → Nat) a + S32x256.size a ≤ S256x256.size a := by
  intro a; have := lt8 d; fin_cases a <;> simp <;> omega
theorem inb_slot (d : Dev nD) : ∀ a, (![d.val, 0, 0] : Fin 3 → Nat) a + S1x32x256.size a ≤ S8x32x256.size a := by
  intro a; have := lt8 d; fin_cases a <;> simp <;> omega

/-- The 32 rows of the send buffer meant for device `d`. -/
abbrev chunkRect (d : Dev nD) : Rect S256x256 := Rect.unit (s := S256x256) ![32 * d.val, 0] S32x256.size (inb_chunk d)
/-- Slot `d` of a landing buffer. -/
abbrev slotRect (d : Dev nD) : Rect S8x32x256 := Rect.unit (s := S8x32x256) ![d.val, 0, 0] S1x32x256.size (inb_slot d)
abbrev chunkM (d : Dev nD) : Memref sig .tc .vmem S32x256 .bf16 := sM.slice (chunkRect d) (fun _ => rfl)
abbrev slotR (d : Dev nD) : Memref sig .tc .vmem S32x256 .bf16 := (rM.slice (slotRect d) (fun _ => rfl)).squeeze S32x256 squeezes_S1x32x256_S32x256
abbrev slotG (d : Dev nD) : Memref sig .tc .vmem S32x256 .bf16 := (gM.slice (slotRect d) (fun _ => rfl)).squeeze S32x256 squeezes_S1x32x256_S32x256

theorem rect2_congr {off off' : Fin 2 → Nat} (h : off = off') (hi : ∀ a, off a + S32x256.size a ≤ S256x256.size a)
    (hi' : ∀ a, off' a + S32x256.size a ≤ S256x256.size a) :
    Rect.unit (s := S256x256) off S32x256.size hi = Rect.unit (s := S256x256) off' S32x256.size hi' := by subst h; rfl
theorem chunk_congr {off off' : Fin 2 → Nat} (h : off = off') (hi : ∀ a, off a + S32x256.size a ≤ S256x256.size a)
    (hi' : ∀ a, off' a + S32x256.size a ≤ S256x256.size a) :
    sM.slice (Rect.unit (s := S256x256) off S32x256.size hi) (fun _ => rfl) = sM.slice (Rect.unit (s := S256x256) off' S32x256.size hi') (fun _ => rfl) := by
  subst h; rfl
theorem slotR_congr {off off' : Fin 3 → Nat} (h : off = off') (hi : ∀ a, off a + S1x32x256.size a ≤ S8x32x256.size a)
    (hi' : ∀ a, off' a + S1x32x256.size a ≤ S8x32x256.size a) :
    (rM.slice (Rect.unit (s := S8x32x256) off S1x32x256.size hi) (fun _ => rfl)).squeeze S32x256 squeezes_S1x32x256_S32x256
      = (rM.slice (Rect.unit (s := S8x32x256) off' S1x32x256.size hi') (fun _ => rfl)).squeeze S32x256 squeezes_S1x32x256_S32x256 := by
  subst h; rfl
theorem slotG_congr {off off' : Fin 3 → Nat} (h : off = off') (hi : ∀ a, off a + S1x32x256.size a ≤ S8x32x256.size a)
    (hi' : ∀ a, off' a + S1x32x256.size a ≤ S8x32x256.size a) :
    (gM.slice (Rect.unit (s := S8x32x256) off S1x32x256.size hi) (fun _ => rfl)).squeeze S32x256 squeezes_S1x32x256_S32x256
      = (gM.slice (Rect.unit (s := S8x32x256) off' S1x32x256.size hi') (fun _ => rfl)).squeeze S32x256 squeezes_S1x32x256_S32x256 := by
  subst h; rfl

/-! ## The offsets the program computes -/

theorem off3_eq : ∀ (c : Dev nD) (r : Fin 7), k0_off3 c (BitVec.ofNat 32 (1 + r.val)) = ![32 * (pr c r).val, 0] := by decide +kernel
theorem off5_eq : ∀ (c : Dev nD) (r : Fin 7), k0_off5 c (BitVec.ofNat 32 (1 + r.val)) = ![(pr c r).val] := by decide +kernel
theorem off6_eq : ∀ (c : Dev nD) (r : Fin 7), k0_off6 c (BitVec.ofNat 32 (1 + r.val)) = ![(pr c r).val, 0, 0] := by decide +kernel
theorem off7_eq : ∀ (c : Dev nD) (r : Fin 7), k0_off7 c (BitVec.ofNat 32 (1 + r.val)) = ![(pr c r).val, 0, 0] := by decide +kernel
theorem off8_eq : ∀ (c : Dev nD) (r : Fin 7), k0_off8 c (BitVec.ofNat 32 (1 + r.val)) = ![32 * (pr c r).val, 0] := by decide +kernel

theorem dev1_eq : ∀ c : Dev nD, (⟨k0_dev1 c, k0_dev1_lt c⟩ : Dev nD) = pr c 0 := by decide +kernel
theorem dev2_eq : ∀ c : Dev nD, (⟨k0_dev2 c, k0_dev2_lt c⟩ : Dev nD) = pr c 1 := by decide +kernel
theorem dev3_eq : ∀ c : Dev nD, (⟨k0_dev3 c, k0_dev3_lt c⟩ : Dev nD) = pr c 2 := by decide +kernel
theorem dev4_eq : ∀ c : Dev nD, (⟨k0_dev4 c, k0_dev4_lt c⟩ : Dev nD) = pr c 3 := by decide +kernel
theorem dev5_eq : ∀ c : Dev nD, (⟨k0_dev5 c, k0_dev5_lt c⟩ : Dev nD) = pr c 4 := by decide +kernel
theorem dev6_eq : ∀ c : Dev nD, (⟨k0_dev6 c, k0_dev6_lt c⟩ : Dev nD) = pr c 5 := by decide +kernel
theorem dev7_eq : ∀ c : Dev nD, (⟨k0_dev7 c, k0_dev7_lt c⟩ : Dev nD) = pr c 6 := by decide +kernel
theorem dev8_eq : ∀ c : Dev nD, (⟨k0_dev8 c, k0_dev8_lt c⟩ : Dev nD) = pr c 0 := by decide +kernel
theorem dev9_eq : ∀ c : Dev nD, (⟨k0_dev9 c, k0_dev9_lt c⟩ : Dev nD) = pr c 1 := by decide +kernel
theorem dev10_eq : ∀ c : Dev nD, (⟨k0_dev10 c, k0_dev10_lt c⟩ : Dev nD) = pr c 2 := by decide +kernel
theorem dev11_eq : ∀ c : Dev nD, (⟨k0_dev11 c, k0_dev11_lt c⟩ : Dev nD) = pr c 3 := by decide +kernel
theorem dev12_eq : ∀ c : Dev nD, (⟨k0_dev12 c, k0_dev12_lt c⟩ : Dev nD) = pr c 4 := by decide +kernel
theorem dev13_eq : ∀ c : Dev nD, (⟨k0_dev13 c, k0_dev13_lt c⟩ : Dev nD) = pr c 5 := by decide +kernel
theorem dev14_eq : ∀ c : Dev nD, (⟨k0_dev14 c, k0_dev14_lt c⟩ : Dev nD) = pr c 6 := by decide +kernel
theorem dev15_eq : ∀ c : Dev nD, (⟨k0_dev15 c, k0_dev15_lt c⟩ : Dev nD) = pr c 0 := by decide +kernel
theorem dev16_eq : ∀ c : Dev nD, (⟨k0_dev16 c, k0_dev16_lt c⟩ : Dev nD) = pr c 1 := by decide +kernel
theorem dev17_eq : ∀ c : Dev nD, (⟨k0_dev17 c, k0_dev17_lt c⟩ : Dev nD) = pr c 2 := by decide +kernel
theorem dev18_eq : ∀ c : Dev nD, (⟨k0_dev18 c, k0_dev18_lt c⟩ : Dev nD) = pr c 3 := by decide +kernel
theorem dev19_eq : ∀ c : Dev nD, (⟨k0_dev19 c, k0_dev19_lt c⟩ : Dev nD) = pr c 4 := by decide +kernel
theorem dev20_eq : ∀ c : Dev nD, (⟨k0_dev20 c, k0_dev20_lt c⟩ : Dev nD) = pr c 5 := by decide +kernel
theorem dev21_eq : ∀ c : Dev nD, (⟨k0_dev21 c, k0_dev21_lt c⟩ : Dev nD) = pr c 6 := by decide +kernel

/-! ## The semaphores -/

abbrev barS : Sem sig := (SemArray.scalar (sig.barrier 0 rfl) : Sems sig S_).sem

/-- The transfer semaphore number `8 k + i` of the four scratch arrays together. -/
def dsem (k : Fin 4) (i : Fin 8) : DmaSem sig := ⟨5 + 8 * k.val + i.val, by have := k.isLt; have := i.isLt; show _ < 37; omega⟩

theorem dsem_inj {k k' : Fin 4} {i i' : Fin 8} (h : dsem k i = dsem k' i') : k = k' ∧ i = i' := by
  have h' := congrArg Fin.val h; have := i.isLt; have := i'.isLt
  simp only [dsem] at h'
  exact ⟨Fin.ext (by omega), Fin.ext (by omega)⟩

theorem sem4_eq {off : Fin 1 → Nat} (i : Fin 8) (h : off = ![i.val]) (hi : ∀ a, off a + S1.size a ≤ S8.size a) :
    ((cc0_scratch4.slice (Rect.unit (s := S8) off S1.size hi)).squeeze S_ squeezes_S1_S_).sem = dsem 0 i := by
  subst h; revert i; decide +kernel
theorem sem5_eq {off : Fin 1 → Nat} (i : Fin 8) (h : off = ![i.val]) (hi : ∀ a, off a + S1.size a ≤ S8.size a) :
    ((cc0_scratch5.slice (Rect.unit (s := S8) off S1.size hi)).squeeze S_ squeezes_S1_S_).sem = dsem 1 i := by
  subst h; revert i; decide +kernel
theorem sem6_eq {off : Fin 1 → Nat} (i : Fin 8) (h : off = ![i.val]) (hi : ∀ a, off a + S1.size a ≤ S8.size a) :
    ((cc0_scratch6.slice (Rect.unit (s := S8) off S1.size hi)).squeeze S_ squeezes_S1_S_).sem = dsem 2 i := by
  subst h; revert i; decide +kernel
theorem sem7_eq {off : Fin 1 → Nat} (i : Fin 8) (h : off = ![i.val]) (hi : ∀ a, off a + S1.size a ≤ S8.size a) :
    ((cc0_scratch7.slice (Rect.unit (s := S8) off S1.size hi)).squeeze S_ squeezes_S1_S_).sem = dsem 3 i := by
  subst h; revert i; decide +kernel

/-- Position `o + 1` of an array of eight. -/
def sc (o : Fin 7) : Fin 8 := ⟨o.val + 1, by omega⟩

/-- The credit of a 32×256 block of 16-bit floats. -/
abbrev N : ℕ := (dM : Memref sig .tc .vmem S32x256 .bf16).view.dmaCredit
theorem N_pos : 0 < N := View.dmaCredit_pos _ (by decide)
theorem credR (d : Dev nD) : (slotR d).view.dmaCredit = N := rfl
theorem credG (d : Dev nD) : (slotG d).view.dmaCredit = N := rfl
theorem credS (d : Dev nD) : (chunkM d).view.dmaCredit = N := rfl

end Cert.Moe

end
-- ==== Proof.Sched.lean ====
/-
# The schedule of the two exchanges

Which device pays which semaphore cell, in what unit, and what the payment hands over. The schedule is stated for any
contents `sb` of the send buffers and `rd` of the reduced blocks, so that nothing here depends on the arithmetic.
-/
module

public import proofs.«01_k».proof.Proof.Views

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

abbrev barCell (c : Dev nD) : GSem nD τ sig := ((c : Thread nD τ), .reg barS)
/-- Device `c`'s cell of family `k` at position `i`: family 0 and 2 the departures of the first and second exchange
    by distance, family 1 and 3 the arrivals by sender. -/
abbrev dCell (k : Fin 4) (i : Fin 8) (c : Dev nD) : GSem nD τ sig := ((c : Thread nD τ), .dma (dsem k i))

/-- All thirty-three cells of a device: the barrier, then the transfer semaphores. -/
def csem (k : Fin 33) : SemLoc sig :=
  if h : k.val = 0 then .reg barS else .dma ⟨4 + k.val, by have := k.isLt; show _ < 37; omega⟩
/-- The kernel's own thirty-two. -/
def osem (k : Fin 32) : SemLoc sig := .dma ⟨5 + k.val, by have := k.isLt; show _ < 37; omega⟩
abbrev kcell (ck : Dev nD × Fin 33) : GSem nD τ sig := ((ck.1 : Thread nD τ), csem ck.2)
def kx (k : Fin 4) (i : Fin 8) : Fin 33 := ⟨1 + 8 * k.val + i.val, by omega⟩

theorem csem_zero : csem 0 = .reg barS := rfl
theorem csem_kx (k : Fin 4) (i : Fin 8) : csem (kx k i) = .dma (dsem k i) := by
  unfold csem kx dsem
  rw [dif_neg (by simp only; omega)]
  exact congrArg SemLoc.dma (Fin.ext (by simp only; omega))

/-- The family and the position of a transfer semaphore. -/
def kindOf (q : DmaSem sig) : Fin 4 := ⟨((q.val - 5) / 8) % 4, Nat.mod_lt _ (by decide)⟩
def idxOf (q : DmaSem sig) : Fin 8 := ⟨(q.val - 5) % 8, Nat.mod_lt _ (by decide)⟩
theorem kindOf_dsem (k : Fin 4) (i : Fin 8) : kindOf (dsem k i) = k := by
  apply Fin.ext; have := k.isLt; have := i.isLt; simp only [kindOf, dsem]; omega
theorem idxOf_dsem (k : Fin 4) (i : Fin 8) : idxOf (dsem k i) = i := by
  apply Fin.ext; have := k.isLt; have := i.isLt; simp only [idxOf, dsem]; omega
theorem dsem_ge (k : Fin 4) (i : Fin 8) : ¬ (dsem k i).val < 5 := by simp only [dsem]; omega

/-! ## Ownership of chunks and slots -/

abbrev slotRPts (c d : Dev nD) (f : Buf (Elt F) ((c : Thread nD τ).loc cc0_scratch1)) : sProp 𝕄 :=
  (slotR d).view.loc (c : Thread nD τ) ↦[(slotR d).view.set]{fullShare} f
abbrev slotGPts (c d : Dev nD) (f : Buf (Elt F) ((c : Thread nD τ).loc cc0_scratch3)) : sProp 𝕄 :=
  (slotG d).view.loc (c : Thread nD τ) ↦[(slotG d).view.set]{fullShare} f
abbrev chunkPts (c d : Dev nD) (f : Buf (Elt F) ((c : Thread nD τ).loc cc0_scratch0)) : sProp 𝕄 :=
  (chunkM d).view.loc (c : Thread nD τ) ↦[(chunkM d).view.set]{fullShare} f
/-- The `o`-th of seven shares of the reduced block. -/
abbrev redPts (c : Dev nD) (o : Fin 7) (f : Buf (Elt F) ((c : Thread nD τ).loc cc0_scratch2)) : sProp 𝕄 :=
  dM.view.loc (c : Thread nD τ) ↦[dM.view.set]{piece fullShare 6 o} f

variable (sb : Dev nD → (cc0_scratch0 : Ref sig .tc).ty.Contents (Elt F)) (rd : Dev nD → (cc0_scratch2 : Ref sig .tc).ty.Contents (Elt F))

/-- The 32 rows device `j` sends to device `c`. -/
def chunkOf (j c : Dev nD) : S32x256.Idx → Elt F .bf16 := (chunkM c).view.read (Elt F) (sb j)

/-- A landing slot holding given rows. -/
abbrev gotR (c d : Dev nD) (X : S32x256.Idx → Elt F .bf16) : sProp 𝕄 :=
  iprop(∃ f : Buf (Elt F) ((c : Thread nD τ).loc cc0_scratch1), ⌜(slotR d).view.read (Elt F) f = X⌝ ∗ slotRPts c d f)
abbrev gotG (c d : Dev nD) (X : S32x256.Idx → Elt F .bf16) : sProp 𝕄 :=
  iprop(∃ f : Buf (Elt F) ((c : Thread nD τ).loc cc0_scratch3), ⌜(slotG d).view.read (Elt F) f = X⌝ ∗ slotGPts c d f)

/-! ## The schedule -/

/-- What the signal of the device at distance `d` hands device `c`: its two slots for `c`. -/
def barPay (c : Dev nD) (d : Fin 7) : sProp 𝕄 :=
  iprop((∃ f, slotRPts (F := F) (pr c d) c f) ∗ (∃ f, slotGPts (F := F) (pr c d) c f))

def predF (i : Fin 8) : Fin 7 := ⟨i.val - 1, by omega⟩
theorem predF_sc (o : Fin 7) : predF (sc o) = o := by apply Fin.ext; simp only [predF, sc]; omega

/-- What a completed transfer hands over: a departure the sent memory back, an arrival the filled slot. -/
def dmaPay (c : Dev nD) (k : Fin 4) (i : Fin 8) : sProp 𝕄 :=
  if k = 0 then chunkPts c (pr c (predF i)) (sb c)
  else if k = 1 then gotR c i (chunkOf sb i c)
  else if k = 2 then redPts c (predF i) (rd c)
  else gotG c i (rd i)

/-- Family `k` at position `i` is used by device `c`: a distance is not zero, a sender is not `c` itself. -/
def used (c : Dev nD) (k : Fin 4) (i : Fin 8) : Prop := if k.val % 2 = 0 then i.val ≠ 0 else i.val ≠ c.val
instance (c : Dev nD) (k : Fin 4) (i : Fin 8) : Decidable (used c k i) := by unfold used; infer_instance

def dutyS (c : Dev nD) : SemLoc sig → Finset (Fin 7)
  | .reg _ => Finset.univ
  | .dma q => if q.val < 5 then ∅ else if used c (kindOf q) (idxOf q) then {0} else ∅
def amtS : SemLoc sig → ℕ
  | .reg _ => 1
  | .dma _ => N
def payS (c : Dev nD) (d : Fin 7) : SemLoc sig → sProp 𝕄
  | .reg _ => barPay c d
  | .dma q => dmaPay sb rd c (kindOf q) (idxOf q)

/-- One round: a barrier cell has seven duties of one unit, a used transfer cell one duty of a block's credit. -/
def sched : Rounds.Schedule (GSem nD τ sig) (Fin 7) 𝕄 where
  duties g r := if r = 0 ∧ g.1.2 = .tc then dutyS g.1.1 g.2 else ∅
  unitless _ := False
  amount g _ _ := amtS g.2
  payload g _ d := payS sb rd g.1.1 d g.2
  amount_pos g _ _ _ := by
    show 0 < amtS g.2
    unfold amtS; split
    · exact Nat.one_pos
    · exact N_pos

instance barPay_storable (c : Dev nD) (d : Fin 7) : BI.Storable (upEmb : UEmb _ 𝕄) (barPay (F := F) c d) := by unfold barPay; infer_instance
instance dmaPay_storable (c : Dev nD) (k : Fin 4) (i : Fin 8) : BI.Storable (upEmb : UEmb _ 𝕄) (dmaPay sb rd c k i) := by
  unfold dmaPay; (repeat' split) <;> infer_instance
instance sched_payload_storable (g : GSem nD τ sig) (r : ℕ) (d : Fin 7) : BI.Storable (upEmb : UEmb _ 𝕄) ((sched sb rd).payload g r d) := by
  show BI.Storable upEmb (payS sb rd g.1.1 d g.2)
  unfold payS; split <;> infer_instance

section Tables
variable (c : Dev nD)

theorem duties_bar : (sched sb rd).duties (barCell c) 0 = Finset.univ := by dsimp only [sched]; rw [if_pos ⟨rfl, rfl⟩]; rfl
theorem duties_d {k : Fin 4} {i : Fin 8} (h : used c k i) : (sched sb rd).duties (dCell k i c) 0 = {0} := by
  dsimp only [sched]; rw [if_pos ⟨rfl, rfl⟩]; dsimp only [dutyS]
  rw [if_neg (dsem_ge k i), kindOf_dsem, idxOf_dsem, if_pos h]
theorem duties_d_unused {k : Fin 4} {i : Fin 8} (h : ¬ used c k i) (r : ℕ) : (sched sb rd).duties (dCell k i c) r = ∅ := by
  dsimp only [sched]; split
  · dsimp only [dutyS]; rw [if_neg (dsem_ge k i), kindOf_dsem, idxOf_dsem, if_neg h]
  · rfl
theorem duties_later (g : GSem nD τ sig) : ∀ r, 1 ≤ r → (sched sb rd).duties g r = ∅ :=
  fun r hr => by dsimp only [sched]; rw [if_neg fun h => by omega]
theorem amount_bar (d : Fin 7) : (sched sb rd).amount (barCell c) 0 d = 1 := rfl
theorem amount_d (k : Fin 4) (i : Fin 8) (d : Fin 7) : (sched sb rd).amount (dCell k i c) 0 d = N := rfl
theorem expect_bar : (sched sb rd).expect (barCell c) 0 = 7 := by
  unfold Schedule.expect Schedule.amountOf
  rw [duties_bar, Finset.sum_congr rfl fun d _ => amount_bar sb rd c d, Finset.sum_const, Finset.card_univ, Fintype.card_fin, smul_eq_mul]
theorem expect_d {k : Fin 4} {i : Fin 8} (h : used c k i) : (sched sb rd).expect (dCell k i c) 0 = N := by
  unfold Schedule.expect Schedule.amountOf; rw [duties_d sb rd c h, Finset.sum_singleton, amount_d]
theorem payload_bar (d : Fin 7) : (sched sb rd).payload (barCell c) 0 d = barPay c d := rfl
theorem payload_d (k : Fin 4) (i : Fin 8) (d : Fin 7) : (sched sb rd).payload (dCell k i c) 0 d = dmaPay sb rd c k i := by
  show dmaPay sb rd c (kindOf (dsem k i)) (idxOf (dsem k i)) = _; rw [kindOf_dsem, idxOf_dsem]
theorem rest_bar : bigSep ((sched sb rd).duties (barCell c) 0 \ ∅) (fun d => (sched sb rd).payload (barCell c) 0 d) = bigSep Finset.univ (fun d => barPay (F := F) c d) := by
  rw [Finset.sdiff_empty, duties_bar]; rfl
theorem rest_d {k : Fin 4} {i : Fin 8} (h : used c k i) :
    bigSep ((sched sb rd).duties (dCell k i c) 0 \ ∅) (fun d => (sched sb rd).payload (dCell k i c) 0 d) = dmaPay sb rd c k i := by
  rw [Finset.sdiff_empty, duties_d sb rd c h, bigSep_singleton, payload_d]

theorem used0 (o : Fin 7) : used c 0 (sc o) := by unfold used; rw [if_pos (by decide)]; simp only [sc]; omega
theorem used2 (o : Fin 7) : used c 2 (sc o) := by unfold used; rw [if_pos (by decide)]; simp only [sc]; omega
theorem used1 (d : Dev nD) (h : d ≠ c) : used c 1 d := by unfold used; rw [if_neg (by decide)]; exact fun h' => h (Fin.ext h')
theorem used3 (d : Dev nD) (h : d ≠ c) : used c 3 d := by unfold used; rw [if_neg (by decide)]; exact fun h' => h (Fin.ext h')

theorem dmaPay0 (o : Fin 7) : dmaPay sb rd c 0 (sc o) = chunkPts c (pr c o) (sb c) := by
  unfold dmaPay; rw [if_pos rfl, predF_sc]
theorem dmaPay1 (d : Dev nD) : dmaPay sb rd c 1 d = gotR c d (chunkOf sb d c) := by
  unfold dmaPay; rw [if_neg (by decide), if_pos rfl]
theorem dmaPay2 (o : Fin 7) : dmaPay sb rd c 2 (sc o) = redPts c o (rd c) := by
  unfold dmaPay; rw [if_neg (by decide), if_neg (by decide), if_pos rfl, predF_sc]
theorem dmaPay3 (d : Dev nD) : dmaPay sb rd c 3 d = gotG c d (rd d) := by
  unfold dmaPay; rw [if_neg (by decide), if_neg (by decide), if_neg (by decide)]
end Tables

/-! ## What each device owes, and the levels -/

/-- The tallies `f o` for `o` in a list, on top of `z`; the list's head is the last summand. -/
def sumL (f : Fin 7 → CellTallies nD τ sig Unit) : List (Fin 7) → CellTallies nD τ sig Unit → CellTallies nD τ sig Unit
  | [], z => z
  | o :: l, z => sumL f l z + f o

def fB (c : Dev nD) (o : Fin 7) : CellTallies nD τ sig Unit := tallyAt (barCell (pr c o)) () 1
def fR (k : Fin 4) (c : Dev nD) (o : Fin 7) : CellTallies nD τ sig Unit := tallyAt (dCell k c (pr c o)) () N
abbrev all7 : List (Fin 7) := [0, 1, 2, 3, 4, 5, 6]
/-- Owed once the first exchange is under way, once the barrier is signalled, and at launch. -/
def O₂ (c : Dev nD) : CellTallies nD τ sig Unit := sumL (fR 3 c) all7 0
def O₁ (c : Dev nD) : CellTallies nD τ sig Unit := sumL (fR 1 c) all7 (O₂ c)
def O₀ (c : Dev nD) : CellTallies nD τ sig Unit := sumL (fB c) all7 (O₁ c)

def L (g : GSem nD τ sig) : Finset Unit := if g.1.2 = .tc then {()} else ∅
def lvS : SemLoc sig → ℕ
  | .reg _ => 1
  | .dma q => if q.val < 5 then 0 else if kindOf q = 1 then 2 else if kindOf q = 3 then 3 else 0
/-- The levels: barrier 1, arrivals of the first exchange 2, of the second 3, all else 0. -/
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lv_d1 (i : Fin 8) (c : Dev nD) (u : Unit) : lv (dCell 1 i c) u = 2 := by
  dsimp only [lv, lvS]; rw [if_neg (dsem_ge 1 i), kindOf_dsem, if_pos rfl]
theorem lv_d3 (i : Fin 8) (c : Dev nD) (u : Unit) : lv (dCell 3 i c) u = 3 := by
  dsimp only [lv, lvS]; rw [if_neg (dsem_ge 3 i), kindOf_dsem, if_neg (by decide), if_pos rfl]

/-- A positive tally in a sum comes from a summand or from the rest. -/
theorem sumL_pos {f : Fin 7 → CellTallies nD τ sig Unit} {z : CellTallies nD τ sig Unit} {g : GSem nD τ sig} {u : Unit} :
    ∀ l : List (Fin 7), 0 < sumL f l z g u → (∃ o, 0 < f o g u) ∨ 0 < z g u
  | [], h => Or.inr h
  | o :: l, h => by
    unfold sumL at h
    rw [Pi.add_apply, Finsupp.add_apply] at h
    by_cases h' : 0 < f o g u
    · exact Or.inl ⟨o, h'⟩
    · exact sumL_pos l (by omega)

theorem tallyAt_pos {g g' : GSem nD τ sig} {n : ℕ} {u : Unit} (h : 0 < (tallyAt g' () n : CellTallies nD τ sig Unit) g u) : g = g' := by
  rw [tallyAt_apply] at h
  by_contra hn
  rw [if_neg (fun h' => hn h'.1)] at h
  exact Nat.lt_irrefl 0 h

theorem O₂_pos {c : Dev nD} {g : GSem nD τ sig} {u : Unit} (h : 0 < O₂ c g u) : ∃ o, g = dCell 3 c (pr c o) := by
  rcases sumL_pos _ h with ⟨o, ho⟩ | h
  · exact ⟨o, tallyAt_pos ho⟩
  · exact absurd h (Nat.lt_irrefl 0)
theorem O₁_pos {c : Dev nD} {g : GSem nD τ sig} {u : Unit} (h : 0 < O₁ c g u) : (∃ o, g = dCell 1 c (pr c o)) ∨ ∃ o, g = dCell 3 c (pr c o) := by
  rcases sumL_pos _ h with ⟨o, ho⟩ | h
  · exact Or.inl ⟨o, tallyAt_pos ho⟩
  · exact Or.inr (O₂_pos h)
theorem O₀_pos {c : Dev nD} {g : GSem nD τ sig} {u : Unit} (h : 0 < O₀ c g u) :
    (∃ o, g = barCell (pr c o)) ∨ (∃ o, g = dCell 1 c (pr c o)) ∨ ∃ o, g = dCell 3 c (pr c o) := by
  rcases sumL_pos _ h with ⟨o, ho⟩ | h
  · exact Or.inl ⟨o, tallyAt_pos ho⟩
  · exact Or.inr (O₁_pos h)

omit [FloatOps F] in
theorem mayWait_stage (c : Dev nD) (q : DmaSem sig) (hq : q.val < 5) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨o, rfl⟩ | ⟨o, rfl⟩ | ⟨o, rfl⟩ <;> exact Finset.mem_singleton_self _)
      (fun p hp => by rw [Finset.mem_singleton.mp hp]; dsimp only [lv, lvS]; rw [if_pos hq])
      (fun g u hg => by
        rcases O₀_pos hg with ⟨o, rfl⟩ | ⟨o, rfl⟩ | ⟨o, rfl⟩
        · exact Nat.one_pos
        · rw [lv_d1]; decide
        · rw [lv_d3]; decide)
  · rw [MayWait_zero]; iintro -; iempintro

omit [FloatOps F] in
/-- At its barrier wait a device owes arrivals only, all above the barrier. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by rcases O₁_pos hg with ⟨o, rfl⟩ | ⟨o, rfl⟩ <;> exact Finset.mem_singleton_self _)
    (fun p hp => by rw [Finset.mem_singleton.mp hp]; exact le_refl 1)
    (fun g u hg => by
      rcases O₁_pos hg with ⟨o, rfl⟩ | ⟨o, rfl⟩
      · rw [lv_d1]; decide
      · rw [lv_d3]; decide)

omit [FloatOps F] in
/-- At an arrival of the first exchange a device owes arrivals of the second only. -/
theorem mayWait_r1 (c : Dev nD) (i : Fin 8) : (levAts L lv : sProp 𝕄) ⊢ MayWait (c : Thread nD τ) (.dma (dsem 1 i)) () (O₂ c) :=
  MayOwe.of_cut (L := L) (lev := lv) 2 (fun p hp => by rw [Finset.mem_singleton.mp hp, L_tc]; exact Finset.mem_singleton_self _)
    (fun g u hg => by rcases O₂_pos hg with ⟨o, rfl⟩; exact Finset.mem_singleton_self _)
    (fun p hp => by rw [Finset.mem_singleton.mp hp]; exact le_of_eq (lv_d1 i c ()))
    (fun g u hg => by rcases O₂_pos hg with ⟨o, rfl⟩; rw [lv_d3]; decide)

end Cert.Moe

end
-- ==== Proof.Steps.lean ====
/-
# One step of the protocol at a time

One lemma for each kind of operation the exchanges are made of: the signal to another device's barrier, the two kinds of
transfer, the four kinds of wait, and the two loads of a filled slot. Each is stated at a symbolic device and distance.
-/
module

public import proofs.«01_k».proof.Proof.Sched

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (sb : Dev nD → (cc0_scratch0 : Ref sig .tc).ty.Contents (Elt F)) (rd : Dev nD → (cc0_scratch2 : Ref sig .tc).ty.Contents (Elt F))

abbrev 𝒱₀ : Variants := Variants.none

/-! ## The records every device shares -/

/-- Every cell's invariant, and that every cell has reached round 0. -/
def records (K : Dev nD × Fin 33 → ℕ) : sProp 𝕄 :=
  iprop((bigSep Finset.univ fun ck : Dev nD × Fin 33 => cellInv ER (sched sb rd) (K ck) (kcell ck))
    ∗ bigSep Finset.univ fun ck : Dev nD × Fin 33 => reached ER (kcell ck) 0)

instance records_persistent (K : Dev nD × Fin 33 → ℕ) : BI.Persistent (records sb rd K) := by unfold records; infer_instance

theorem inv_at (K : Dev nD × Fin 33 → ℕ) (ck : Dev nD × Fin 33) :
    records sb rd K ⊢ cellInv ER (sched sb rd) (K ck) (kcell ck) := by
  unfold records
  exact sep_elim_left.trans (bigSep_elim (Φ := fun ck : Dev nD × Fin 33 => cellInv ER (sched sb rd) (K ck) (kcell ck)) (Finset.mem_univ ck))
theorem reached_at (K : Dev nD × Fin 33 → ℕ) (ck : Dev nD × Fin 33) :
    records sb rd K ⊢ reached ER (kcell ck) 0 := by
  unfold records
  exact sep_elim_right.trans (bigSep_elim (Φ := fun ck : Dev nD × Fin 33 => (reached ER (kcell ck) 0 : sProp 𝕄)) (Finset.mem_univ ck))

theorem inv_bar (K : Dev nD × Fin 33 → ℕ) (c : Dev nD) : records sb rd K ⊢ cellInv ER (sched sb rd) (K (c, 0)) (barCell c) :=
  inv_at sb rd K (c, 0)
theorem reached_bar (K : Dev nD × Fin 33 → ℕ) (c : Dev nD) : records sb rd K ⊢ reached ER (barCell c) 0 := reached_at sb rd K (c, 0)
theorem kcell_kx (c : Dev nD) (k : Fin 4) (i : Fin 8) : kcell (c, kx k i) = dCell k i c := by
  unfold kcell; exact congrArg (Prod.mk _) (csem_kx k i)
theorem inv_d (K : Dev nD × Fin 33 → ℕ) (c : Dev nD) (k : Fin 4) (i : Fin 8) :
    records sb rd K ⊢ cellInv ER (sched sb rd) (K (c, kx k i)) (dCell k i c) := by
  rw [← kcell_kx]; exact inv_at sb rd K (c, kx k i)
theorem reached_d (K : Dev nD × Fin 33 → ℕ) (c : Dev nD) (k : Fin 4) (i : Fin 8) :
    records sb rd K ⊢ reached ER (dCell k i c) 0 := by
  rw [← kcell_kx]; exact reached_at sb rd K (c, kx k i)

/-- A device's debts, its waits so far left open. -/
def ow (c : Dev nD) (O : CellTallies nD τ sig Unit) : sProp 𝕄 := iprop(∃ W, owes (c : Thread nD τ) O W)

section Steps

variable (K : Dev nD × Fin 33 → ℕ) (c : Dev nD)

/-- What signalling the device at distance `o` takes: its duty token there and the two slots kept for it. -/
def sigRes (o : Fin 7) : sProp 𝕄 :=
  iprop(dutyTok ER (barCell (pr c o)) 0 (rv o) ∗ (∃ f, slotRPts (F := F) c (pr c o) f) ∗ (∃ f, slotGPts (F := F) c (pr c o) f))

/-- The signal to the barrier of the device at distance `o`. -/
theorem step_signal {α : Type} {Q : α → sProp 𝕄} {k : PUnit → Prog (TpuEff nD τ sig (Elt F) Λ₀ .tc) α} (o : Fin 7) (n : Dev nD) (hn : n = pr c o) (k' : ℕ) (hk : 1 = k') (O : CellTallies nD τ sig Unit) :
    records sb rd K ⊢ iprop(ow c (O + fB c o) -∗ sigRes c o
      -∗ (ow c O -∗ wp frame (wpE (defs₀ (F := F)) 𝒱₀ (c : Thread nD τ) none) Set.univ (k ⟨⟩) Q)
      -∗ wp frame (wpE (defs₀ (F := F)) 𝒱₀ (c : Thread nD τ) none) Set.univ (.op (.semSignal (Dev.tc n) barS k') k) Q) := by
  subst hn; subst hk
  unfold ow sigRes fB
  iintro #HR ⟨%W, HO⟩ ⟨Ht, Hr, Hg⟩ Hk
  iapply (Rounds.wp_signal 𝒱₀ ER (sched sb rd) (c : Thread nD τ) none (dst := (pr c o : Thread nD τ)) (κ := K (pr c o, 0))
      (d := rv o) (by rw [duties_bar]; exact Finset.mem_univ _) (amount_bar sb rd (pr c o) (rv o)) () O rfl)
    $$ [HO Ht Hr Hg]
  · isplitr; · iapply (inv_bar sb rd K (pr c o)); iexact HR
    isplitl [HO]; · iexact HO
    isplitl [Ht]; · iexact Ht
    isplitl [Hr Hg]
    · rw [payload_bar]; unfold barPay; rw [pr_rv]
      isplitl [Hr] <;> iassumption
    iapply (reached_bar sb rd K (pr c o)); iexact HR
  iintro HO
  iapply Hk; iexists W; iexact HO

/-- The wait for all seven on the own barrier cell. -/
theorem step_barrier {α : Type} {Q : α → sProp 𝕄} {k : PUnit → Prog (TpuEff nD τ sig (Elt F) Λ₀ .tc) α} (k' : ℕ) (hk : 7 = k') :
    records sb rd K ⊢ iprop(levAts L lv -∗ ow c (O₁ c) -∗ cred (tallyAt (barCell c) () 7) -∗ atPos ER (barCell c) 0 ∅ 0
      -∗ (ow c (O₁ c) -∗ (bigSep Finset.univ fun d => barPay (F := F) c d) -∗ semVal (barCell c) 0
          -∗ wp frame (wpE (defs₀ (F := F)) 𝒱₀ (c : Thread nD τ) none) Set.univ (k ⟨⟩) Q)
      -∗ wp frame (wpE (defs₀ (F := F)) 𝒱₀ (c : Thread nD τ) none) Set.univ (.op (.semWait barS k') k) Q) := by
  subst hk
  unfold ow
  iintro #HR #Hlev ⟨%W, HO⟩ Hc Hat Hk
  iapply (Rounds.wp_wait_rest_token 𝒱₀ ER (sched sb rd) (c : Thread nD τ) none (κ := K (c, 0))
      (wpE_semWait_eq 𝒱₀ (c : Thread nD τ) none Set.univ) (Set.mem_univ _) () (O := O₁ c) (W := W) (R := 0) (m := 0) (T := ∅)
      (by rw [expect_bar])) $$ [Hc HO Hat]
  · isplitr; · iapply (inv_bar sb rd K c); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar sb rd c)) $$ Hpay
  imod (Rounds.cell_close ER (sched sb rd) (Set.mem_univ (K (c, 0))) (fun h => h) (R := 0 + 1) (duties_later sb rd (barCell c))) $$ [Hat] with Hz
  · isplitr; · iapply (inv_bar sb rd K c); iexact HR
    iexact Hat
  iapply Hk $$ [HO] Hp Hz
  iexists _; iexact HO

/-- A wait on an own transfer cell, which it then closes: the transfer's payload and the counter at zero. -/
theorem step_wait {α : Type} {Q : α → sProp 𝕄} {k : PUnit → Prog (TpuEff nD τ sig (Elt F) Λ₀ .tc) α} {kk : Fin 4} {i : Fin 8} (hu : used c kk i) (q : DmaSem sig) (hq : q = dsem kk i)
    {sps spd : Space} {s s' : Shape} {e e' : EltTy} {src : Memref sig .tc sps s e} {dst : Memref sig .tc spd s' e'}
    {hs : src.view.WordExact} {hd : dst.view.WordExact} (hN : dst.view.dmaCredit = N) (O : CellTallies nD τ sig Unit)
    (hw : (levAts L lv : sProp 𝕄) ⊢ MayWait (c : Thread nD τ) (.dma (dsem kk i)) () O) :
    records sb rd K ⊢ iprop(levAts L lv -∗ ow c O -∗ cred (tallyAt (dCell kk i c) () N) -∗ atPos ER (dCell kk i c) 0 ∅ 0
      -∗ (ow c O -∗ dmaPay sb rd c kk i -∗ semVal (dCell kk i c) 0
          -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 q src dst hs hd) k) Q) := by
  subst hq
  unfold ow
  iintro #HR #Hlev ⟨%W, HO⟩ Hc Hat Hk
  iapply (Rounds.wp_wait_rest_token 𝒱₀ ER (sched sb rd) (c : Thread nD τ) none (κ := K (c, kx kk i))
      (wpE_waitDma2_eq 𝒱₀ (c : Thread nD τ) none Set.univ) (Set.mem_univ _) () (O := O) (W := W) (R := 0) (m := 0) (T := ∅)
      (by rw [Nat.zero_add, expect_d sb rd c hu]; exact hN)) $$ [Hc HO Hat]
  · isplitr; · iapply (inv_d sb rd K c kk i); iexact HR
    isplitl [Hc]; · rw [hN]; iexact Hc
    isplitl [HO]; · iexact HO
    isplitr; · iapply hw; iexact Hlev
    iexact Hat
  iintro ⟨HO, Hat, -, Hpay⟩
  ihave Hp := (Entails.of_eq (rest_d sb rd c hu)) $$ Hpay
  imod (Rounds.cell_close ER (sched sb rd) (Set.mem_univ (K (c, kx kk i))) (fun h => h) (R := 0 + 1) (duties_later sb rd (dCell kk i c))) $$ [Hat] with Hz
  · isplitr; · iapply (inv_d sb rd K c kk i); iexact HR
    iexact Hat
  iapply Hk $$ [HO] Hp Hz
  iexists _; iexact HO

/-- What the first exchange's transfer to the device at distance `o` takes: the two duty tokens and the rows sent. -/
def send1Res (o : Fin 7) : sProp 𝕄 :=
  iprop(dutyTok ER (dCell 0 (sc o) c) 0 0 ∗ dutyTok ER (dCell 1 c (pr c o)) 0 0)
def send2Res (o : Fin 7) : sProp 𝕄 :=
  iprop(dutyTok ER (dCell 2 (sc o) c) 0 0 ∗ dutyTok ER (dCell 3 c (pr c o)) 0 0)

/-- The first exchange's transfer to the device at distance `o`: 32 rows of the send buffer into the slot it gave. -/
theorem step_send1 {α : Type} {Q : α → sProp 𝕄} {k : PUnit → Prog (TpuEff nD τ sig (Elt F) Λ₀ .tc) α} (o : Fin 7) (n : Dev nD) (hn : n = pr c o)
    (src : Memref sig .tc .vmem S32x256 .bf16) (hsE : src = chunkM (pr c o)) (dst : Memref sig (Dev.tc n : Thread nD τ).2.kind .vmem S32x256 .bf16) (hdE : dst = slotR c)
    (q1 q2 : DmaSem sig) (hq1 : q1 = dsem 0 (sc o)) (hq2 : q2 = dsem 1 c)
    {hsc : dst.view.ref.isScScratch = false} {hsrc : src.view.WordExact} {hdst : dst.view.WordExact}
    {hsem : DmaTarget.Typed .vmem (.dma q2) (.remote (Dev.tc n : Thread nD τ) dst (.dma q1) hsc)} (O : CellTallies nD τ sig Unit) :
    records sb rd K ⊢ iprop(ow c (O + fR 1 c o) -∗ send1Res c o -∗ chunkPts c (pr c o) (sb c) -∗ (∃ f, slotRPts (F := F) (pr c o) c f)
      -∗ (ow c O -∗ cred (tallyAt (dCell 0 (sc o) c) () N) -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma src (.remote (Dev.tc n : Thread nD τ) dst (.dma q1) hsc) (.dma q2) hsrc hdst hsem) k) Q) := by
  subst hn; subst hsE; subst hdE; subst hq1; subst hq2
  unfold ow send1Res fR
  iintro #HR ⟨%W, HO⟩ ⟨Ht0, Ht1⟩ Hs ⟨%fn, Hd⟩ Hk
  iapply (Rounds.wp_send_pointsTo 𝒱₀ ER (sched sb rd) (c : Thread nD τ) none (κ₁ := K (c, kx 0 (sc o))) (κ₂ := K (pr c o, kx 1 c))
    (r₁ := 0) (r₂ := 0) (d₁ := 0) (d₂ := 0) (fd := fn)
    (by rw [duties_d sb rd c (used0 c o)]; exact Finset.mem_singleton_self _)
    (by rw [duties_d sb rd (pr c o) (used1 (pr c o) c (pr_ne c o).symm)]; exact Finset.mem_singleton_self _)
    () () N (show (slotR c).view.amount (.dma (dsem 1 c)) = N from credR c) (amount_d sb rd c 0 (sc o) 0) (amount_d sb rd (pr c o) 1 c 0) O rfl (W := W)
    (by rw [payload_d, dmaPay0])
    (by
      rw [payload_d, dmaPay1]
      iintro H; iexists ((slotR c).view.write (Elt F) fn ((chunkM (pr c o)).view.read (Elt F) (sb c)) Finset.univ); isplitr
      · ipureintro; exact View.read_write_univ _ _
      · iexact H)) $$ [HO Ht0 Ht1 Hs Hd]
  · isplitr; · iapply (inv_d sb rd K c 0 (sc o)); iexact HR
    isplitr; · iapply (inv_d sb rd K (pr c o) 1 c); iexact HR
    isplitl [Hs]; · iexact Hs
    isplitl [Hd]; · iexact Hd
    isplitl [HO]; · iexact HO
    isplitl [Ht0]; · iexact Ht0
    isplitr; · iapply (reached_d sb rd K c 0 (sc o)); iexact HR
    isplitl [Ht1]; · iexact Ht1
    iapply (reached_d sb rd K (pr c o) 1 c); iexact HR
  iintro ⟨Hc, HO⟩
  iapply Hk $$ [HO] Hc
  iexists _; iexact HO

/-- The second exchange's transfer to the device at distance `o`: the reduced block, held at one share of seven. -/
theorem step_send2 {α : Type} {Q : α → sProp 𝕄} {k : PUnit → Prog (TpuEff nD τ sig (Elt F) Λ₀ .tc) α} (o : Fin 7) (n : Dev nD) (hn : n = pr c o)
    (dst : Memref sig (Dev.tc n : Thread nD τ).2.kind .vmem S32x256 .bf16) (hdE : dst = slotG c)
    (q1 q2 : DmaSem sig) (hq1 : q1 = dsem 2 (sc o)) (hq2 : q2 = dsem 3 c)
    {hsc : dst.view.ref.isScScratch = false} {hsrc : (dM : Memref sig .tc .vmem S32x256 .bf16).view.WordExact} {hdst : dst.view.WordExact}
    {hsem : DmaTarget.Typed .vmem (.dma q2) (.remote (Dev.tc n : Thread nD τ) dst (.dma q1) hsc)} (O : CellTallies nD τ sig Unit) :
    records sb rd K ⊢ iprop(ow c (O + fR 3 c o) -∗ send2Res c o -∗ redPts c o (rd c) -∗ (∃ f, slotGPts (F := F) (pr c o) c f)
      -∗ (ow c O -∗ cred (tallyAt (dCell 2 (sc o) c) () N) -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma dM (.remote (Dev.tc n : Thread nD τ) dst (.dma q1) hsc) (.dma q2) hsrc hdst hsem) k) Q) := by
  subst hn; subst hdE; subst hq1; subst hq2
  unfold ow send2Res fR
  iintro #HR ⟨%W, HO⟩ ⟨Ht0, Ht1⟩ Hs ⟨%fn, Hd⟩ Hk
  iapply (Rounds.wp_send_pointsTo 𝒱₀ ER (sched sb rd) (c : Thread nD τ) none (κ₁ := K (c, kx 2 (sc o))) (κ₂ := K (pr c o, kx 3 c))
    (r₁ := 0) (r₂ := 0) (d₁ := 0) (d₂ := 0) (fd := fn)
    (by rw [duties_d sb rd c (used2 c o)]; exact Finset.mem_singleton_self _)
    (by rw [duties_d sb rd (pr c o) (used3 (pr c o) c (pr_ne c o).symm)]; exact Finset.mem_singleton_self _)
    () () N (show (slotG c).view.amount (.dma (dsem 3 c)) = N from credG c) (amount_d sb rd c 2 (sc o) 0) (amount_d sb rd (pr c o) 3 c 0) O rfl (W := W)
    (by rw [payload_d, dmaPay2])
    (by
      rw [payload_d, dmaPay3]
      iintro H; iexists ((slotG c).view.write (Elt F) fn (dM.view.read (Elt F) (rd c)) Finset.univ); isplitr
      · ipureintro; exact (View.read_write_univ _ _).trans (View.read_whole _ _)
      · iexact H)) $$ [HO Ht0 Ht1 Hs Hd]
  · isplitr; · iapply (inv_d sb rd K c 2 (sc o)); iexact HR
    isplitr; · iapply (inv_d sb rd K (pr c o) 3 c); iexact HR
    isplitl [Hs]; · iexact Hs
    isplitl [Hd]; · iexact Hd
    isplitl [HO]; · iexact HO
    isplitl [Ht0]; · iexact Ht0
    isplitr; · iapply (reached_d sb rd K c 2 (sc o)); iexact HR
    isplitl [Ht1]; · iexact Ht1
    iapply (reached_d sb rd K (pr c o) 3 c); iexact HR
  iintro ⟨Hc, HO⟩
  iapply Hk $$ [HO] Hc
  iexists _; iexact HO

/-! ## The loads of a filled slot -/

/-- A block of 32 rows with a leading axis of size one. -/
def up (X : S32x256.Idx → Elt F .bf16) : S1x32x256.Idx → Elt F .bf16 :=
  fun i => X ((Shape.reshapeEquiv (s := S1x32x256) (s' := S32x256) squeezes_S1x32x256_S32x256.numel_eq).symm i)

theorem read_slotR (d : Dev nD) (f : (cc0_scratch1 : Ref sig .tc).ty.Contents (Elt F)) {off : Fin 3 → Nat} (h : off = ![d.val, 0, 0])
    (hi : ∀ a, off a + S1x32x256.size a ≤ S8x32x256.size a) :
    (rM : Memref sig .tc .vmem S8x32x256 .bf16).view.readAt (Elt F) (Rect.unit (s := S8x32x256) off S1x32x256.size hi).toLoadRect f = up ((slotR d).view.read (Elt F) f) := by
  subst h
  funext i
  show _ = (slotR d).view.read (Elt F) f _
  show _ = ((rM.slice (slotRect d) (fun _ => rfl)).view.read (Elt F) f) (Shape.reshapeEquiv _ _)
  rw [Equiv.apply_symm_apply]; rfl
theorem read_slotG (d : Dev nD) (f : (cc0_scratch3 : Ref sig .tc).ty.Contents (Elt F)) {off : Fin 3 → Nat} (h : off = ![d.val, 0, 0])
    (hi : ∀ a, off a + S1x32x256.size a ≤ S8x32x256.size a) :
    (gM : Memref sig .tc .vmem S8x32x256 .bf16).view.readAt (Elt F) (Rect.unit (s := S8x32x256) off S1x32x256.size hi).toLoadRect f = up ((slotG d).view.read (Elt F) f) := by
  subst h
  funext i
  show _ = (slotG d).view.read (Elt F) f _
  show _ = ((gM.slice (slotRect d) (fun _ => rfl)).view.read (Elt F) f) (Shape.reshapeEquiv _ _)
  rw [Equiv.apply_symm_apply]; rfl

theorem slotR_sub (d : Dev nD) {off : Fin 3 → Nat} (h : off = ![d.val, 0, 0]) (hi : ∀ a, off a + S1x32x256.size a ≤ S8x32x256.size a) :
    (rM : Memref sig .tc .vmem S8x32x256 .bf16).view.setOn (Rect.unit (s := S8x32x256) off S1x32x256.size hi).toLoadRect.set ⊆ (slotR d).view.set := by
  subst h
  show _ ⊆ ((rM.view.slice (slotRect d)).reshape S32x256 squeezes_S1x32x256_S32x256.numel_eq).set
  rw [View.set_reshape, View.set_slice]; exact Finset.Subset.refl _
theorem slotG_sub (d : Dev nD) {off : Fin 3 → Nat} (h : off = ![d.val, 0, 0]) (hi : ∀ a, off a + S1x32x256.size a ≤ S8x32x256.size a) :
    (gM : Memref sig .tc .vmem S8x32x256 .bf16).view.setOn (Rect.unit (s := S8x32x256) off S1x32x256.size hi).toLoadRect.set ⊆ (slotG d).view.set := by
  subst h
  show _ ⊆ ((gM.view.slice (slotRect d)).reshape S32x256 squeezes_S1x32x256_S32x256.numel_eq).set
  rw [View.set_reshape, View.set_slice]; exact Finset.Subset.refl _

/-- The load of slot `d` of the first landing buffer. -/
theorem step_loadR {α : Type} {Q : α → sProp 𝕄} {k' : (S1x32x256.Idx → Elt F .bf16) → Prog (TpuEff nD τ sig (Elt F) Λ₀ .tc) α} (d : Dev nD) (X : S32x256.Idx → Elt F .bf16) {off : Fin 3 → Nat} (h : off = ![d.val, 0, 0])
    (hi : ∀ a, off a + S1x32x256.size a ≤ S8x32x256.size a) {hl} :
    iprop(gotR c d X) ⊢ iprop((gotR c d X -∗ wp frame (wpE (defs₀ (F := F)) 𝒱₀ (c : Thread nD τ) none) Set.univ (k' (up X)) Q)
      -∗ wp frame (wpE (defs₀ (F := F)) 𝒱₀ (c : Thread nD τ) none) Set.univ
          (.op (.load rM (Rect.unit (s := S8x32x256) off S1x32x256.size hi).toLoadRect hl) k') Q) := by
  iintro ⟨%f, %hf, H⟩ Hk
  iapply (wp_load 𝒱₀ (c : Thread nD τ) none Set.univ (m := rM) (slotR_sub d h hi)) $$ H; iintro H
  rw [read_slotR d f h hi, hf]
  iapply Hk; iexists f; isplitr
  · ipureintro; exact hf
  · iexact H
/-- The load of slot `d` of the second landing buffer. -/
theorem step_loadG {α : Type} {Q : α → sProp 𝕄} {k' : (S1x32x256.Idx → Elt F .bf16) → Prog (TpuEff nD τ sig (Elt F) Λ₀ .tc) α} (d : Dev nD) (X : S32x256.Idx → Elt F .bf16) {off : Fin 3 → Nat} (h : off = ![d.val, 0, 0])
    (hi : ∀ a, off a + S1x32x256.size a ≤ S8x32x256.size a) {hl} :
    iprop(gotG c d X) ⊢ iprop((gotG c d X -∗ wp frame (wpE (defs₀ (F := F)) 𝒱₀ (c : Thread nD τ) none) Set.univ (k' (up X)) Q)
      -∗ wp frame (wpE (defs₀ (F := F)) 𝒱₀ (c : Thread nD τ) none) Set.univ
          (.op (.load gM (Rect.unit (s := S8x32x256) off S1x32x256.size hi).toLoadRect hl) k') Q) := by
  iintro ⟨%f, %hf, H⟩ Hk
  iapply (wp_load 𝒱₀ (c : Thread nD τ) none Set.univ (m := gM) (slotG_sub d h hi)) $$ H; iintro H
  rw [read_slotG d f h hi, hf]
  iapply Hk; iexists f; isplitr
  · ipureintro; exact hf
  · iexact H

end Steps

end Cert.Moe

end
-- ==== Proof.Glue.lean ====
/-
# Cutting and joining buffers

The send buffer is its eight chunks, a landing buffer its eight slots, the reduced block its seven shares; eight things,
one per device, are the own one and the seven at the distances.
-/
module

public import proofs.«01_k».proof.Proof.Steps
public import Idealize.ShloMosaic.Lib.Ring

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Seven things in a row. -/
theorem fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem pr_injective (c : Dev nD) : Function.Injective (pr c) := fun _ _ h => pr_inj c h

theorem dev_univ : ∀ c : Dev nD, (Finset.univ : Finset (Dev nD)) = insert c (Finset.univ.map ⟨pr c, pr_injective c⟩) := by
  intro c; ext d; simp only [Finset.mem_univ, Finset.mem_insert, Finset.mem_map, Function.Embedding.coeFn_mk, true_and, true_iff]
  by_cases h : d = c
  · exact Or.inl h
  · refine Or.inr ⟨⟨(d.val + 8 - c.val) % 8 - 1, by have := lt8 c; have := lt8 d; omega⟩, Fin.ext ?_⟩
    have h' : d.val ≠ c.val := fun e => h (Fin.ext e)
    have := lt8 c; have := lt8 d; simp only [pr]; omega

/-- Eight things, one per device: the own one and those at the seven distances. -/
theorem dev_split (c : Dev nD) (Φ : Dev nD → sProp 𝕄) : bigSep Finset.univ Φ = iprop(Φ c ∗ bigSep Finset.univ fun o : Fin 7 => Φ (pr c o)) := by
  rw [dev_univ c, BI.bigSep_insert, BI.bigSep_map]
  · rfl
  · simp only [Finset.mem_map, Function.Embedding.coeFn_mk, Finset.mem_univ, true_and, not_exists]
    exact fun o => pr_ne c o

theorem chunk_set (d : Dev nD) : (chunkM d).view.set = (chunkRect d).set :=
  View.set_slice_whole cc0_scratch0 (chunkRect d)
theorem slotR_set (d : Dev nD) : (slotR d).view.set = (slotRect d).set :=
  (View.set_reshape _ _).trans (View.set_slice_whole cc0_scratch1 (slotRect d))
theorem slotG_set (d : Dev nD) : (slotG d).view.set = (slotRect d).set :=
  (View.set_reshape _ _).trans (View.set_slice_whole cc0_scratch3 (slotRect d))

theorem mem_chunk {d : Dev nD} {i : S256x256.Idx} : i ∈ (chunkRect d).set ↔ (i 0).val / 32 = d.val := by
  rw [Rect.mem_set_unit]
  constructor
  · intro h; have h0 := h 0
    simp at h0; omega
  · intro h a
    fin_cases a
    · simp; omega
    · have := (i 1).isLt; simp; exact this
theorem mem_slot {d : Dev nD} {i : S8x32x256.Idx} : i ∈ (slotRect d).set ↔ (i 0).val = d.val := by
  rw [Rect.mem_set_unit]
  constructor
  · intro h; have h0 := h 0
    simp at h0; omega
  · intro h a
    fin_cases a
    · simp; omega
    · have := (i 1).isLt; simp; exact this
    · have := (i 2).isLt; simp; exact this

theorem chunk_disj (b b' : Dev nD) (h : b ≠ b') : Disjoint (chunkM b).view.set (chunkM b').view.set := by
  rw [chunk_set, chunk_set, Finset.disjoint_left]
  exact fun i h1 h2 => h (Fin.ext ((mem_chunk.mp h1).symm.trans (mem_chunk.mp h2)))
theorem chunk_cover : Finset.biUnion (β := S256x256.Idx) (Finset.univ : Finset (Dev nD)) (fun d => (chunkM d).view.set) = Finset.univ := by
  ext i; simp only [Finset.mem_biUnion, Finset.mem_univ, true_and, iff_true]
  refine ⟨⟨(i 0).val / 32, ?_⟩, ?_⟩
  · have := (i 0).isLt; show _ < 8; change (i 0).val < 256 at this; omega
  · rw [chunk_set]; exact mem_chunk.mpr rfl
theorem slotR_disj (b b' : Dev nD) (h : b ≠ b') : Disjoint (slotR b).view.set (slotR b').view.set := by
  rw [slotR_set, slotR_set, Finset.disjoint_left]
  exact fun i h1 h2 => h (Fin.ext ((mem_slot.mp h1).symm.trans (mem_slot.mp h2)))
theorem slotR_cover : Finset.biUnion (β := S8x32x256.Idx) (Finset.univ : Finset (Dev nD)) (fun d => (slotR d).view.set) = Finset.univ := by
  ext i; simp only [Finset.mem_biUnion, Finset.mem_univ, true_and, iff_true]
  exact ⟨⟨(i 0).val, (i 0).isLt⟩, by rw [slotR_set]; exact mem_slot.mpr rfl⟩
theorem slotG_disj (b b' : Dev nD) (h : b ≠ b') : Disjoint (slotG b).view.set (slotG b').view.set := by
  rw [slotG_set, slotG_set, Finset.disjoint_left]
  exact fun i h1 h2 => h (Fin.ext ((mem_slot.mp h1).symm.trans (mem_slot.mp h2)))
theorem slotG_cover : Finset.biUnion (β := S8x32x256.Idx) (Finset.univ : Finset (Dev nD)) (fun d => (slotG d).view.set) = Finset.univ := by
  ext i; simp only [Finset.mem_biUnion, Finset.mem_univ, true_and, iff_true]
  exact ⟨⟨(i 0).val, (i 0).isLt⟩, by rw [slotG_set]; exact mem_slot.mpr rfl⟩

/-- The send buffer held whole is held chunk by chunk. -/
theorem chunks_eq (c : Dev nD) (f : Buf (Elt F) ((c : Thread nD τ).loc cc0_scratch0)) :
    (((c : Thread nD τ).loc cc0_scratch0) ↦{fullShare} f : sProp 𝕄) = iprop(chunkPts c c f ∗ bigSep Finset.univ fun o : Fin 7 => chunkPts c (pr c o) f) :=
  (Ring.pointsTo_blocks (ℓ := (c : Thread nD τ).loc cc0_scratch0) (fun d : Dev nD => (chunkM d).view.set) chunk_disj chunk_cover f).trans (dev_split c fun d => chunkPts c d f)

/-- A landing buffer held whole at some contents is held slot by slot, each at some contents. -/
theorem slotsR_split (c : Dev nD) (f : Buf (Elt F) ((c : Thread nD τ).loc cc0_scratch1)) :
    (((c : Thread nD τ).loc cc0_scratch1) ↦{fullShare} f : sProp 𝕄)
      = iprop(slotRPts c c f ∗ bigSep Finset.univ fun o : Fin 7 => slotRPts (F := F) c (pr c o) f) :=
  (Ring.pointsTo_blocks (ℓ := (c : Thread nD τ).loc cc0_scratch1) (fun d : Dev nD => (slotR d).view.set) slotR_disj slotR_cover f).trans (dev_split c fun d => slotRPts c d f)
theorem slotsG_split (c : Dev nD) (f : Buf (Elt F) ((c : Thread nD τ).loc cc0_scratch3)) :
    (((c : Thread nD τ).loc cc0_scratch3) ↦{fullShare} f : sProp 𝕄)
      = iprop(slotGPts c c f ∗ bigSep Finset.univ fun o : Fin 7 => slotGPts (F := F) c (pr c o) f) :=
  (Ring.pointsTo_blocks (ℓ := (c : Thread nD τ).loc cc0_scratch3) (fun d : Dev nD => (slotG d).view.set) slotG_disj slotG_cover f).trans (dev_split c fun d => slotGPts c d f)

/-- And back. -/
theorem slotsR_join (c : Dev nD) (f₀ : Buf (Elt F) ((c : Thread nD τ).loc cc0_scratch1)) :
    iprop(slotRPts c c f₀ ∗ bigSep Finset.univ fun o : Fin 7 => iprop(∃ f, slotRPts (F := F) c (pr c o) f))
      ⊢ (iprop(∃ f, ((c : Thread nD τ).loc cc0_scratch1) ↦{fullShare} f) : sProp 𝕄) := by
  refine BIBase.Entails.trans ?_ (Ring.pointsTo_blocks_join_exists (ℓ := (c : Thread nD τ).loc cc0_scratch1) (fun d : Dev nD => (slotR d).view.set) slotR_disj slotR_cover f₀)
  refine BIBase.Entails.trans ?_ (BIBase.Entails.of_eq (dev_split c fun d => iprop(∃ f, slotRPts (F := F) c d f)).symm)
  iintro ⟨H, Hs⟩
  isplitl [H]
  · iexists f₀; iexact H
  · iexact Hs
theorem slotsG_join (c : Dev nD) (f₀ : Buf (Elt F) ((c : Thread nD τ).loc cc0_scratch3)) :
    iprop(slotGPts c c f₀ ∗ bigSep Finset.univ fun o : Fin 7 => iprop(∃ f, slotGPts (F := F) c (pr c o) f))
      ⊢ (iprop(∃ f, ((c : Thread nD τ).loc cc0_scratch3) ↦{fullShare} f) : sProp 𝕄) := by
  refine BIBase.Entails.trans ?_ (Ring.pointsTo_blocks_join_exists (ℓ := (c : Thread nD τ).loc cc0_scratch3) (fun d : Dev nD => (slotG d).view.set) slotG_disj slotG_cover f₀)
  refine BIBase.Entails.trans ?_ (BIBase.Entails.of_eq (dev_split c fun d => iprop(∃ f, slotGPts (F := F) c d f)).symm)
  iintro ⟨H, Hs⟩
  isplitl [H]
  · iexists f₀; iexact H
  · iexact Hs

/-- The reduced block held whole is held at its seven shares. -/
theorem red_pieces (c : Dev nD) (f : Buf (Elt F) ((c : Thread nD τ).loc cc0_scratch2)) :
    (((c : Thread nD τ).loc cc0_scratch2) ↦{fullShare} f : sProp 𝕄) = bigSep Finset.univ fun o : Fin 7 => redPts c o f := by
  have h : (dM : Memref sig .tc .vmem S32x256 .bf16).view.set = Finset.univ := View.set_whole _
  unfold redPts; rw [h]
  exact pointsTo_pieces Finset.univ f 6 fullShare

end Cert.Moe

end
-- ==== Proof.Conts.lean ====
/-
# What the buffers hold, and the combined steps

The contents each store leaves, as functions of a device's inputs and of what the others send, and the steps a device
repeats at every distance: take an arrival and read it, put received rows into the result.
-/
module

public import proofs.«01_k».proof.Proof.Glue

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (sb : Dev nD → (cc0_scratch0 : Ref sig .tc).ty.Contents (Elt F)) (rd : Dev nD → (cc0_scratch2 : Ref sig .tc).ty.Contents (Elt F))

/-! ## Contents -/

/-- The device's number as the program computes it. -/
def v2w (c : Dev nD) : BitVec 32 := Scalar.remsi (Scalar.divsi (Dev.word c) 1#32) 8#32

theorem hz2 : (![0, 0] : Fin 2 → Nat) = fun _ => 0 := funext fun a => by fin_cases a <;> rfl

/-- The two columns of the route indices, and the two experts of a device. -/
def ldI0 (I : (cc0_stg2_0 : Ref sig .tc).ty.Contents (Elt F)) : Vec F S256x1 .i32 :=
  (iM : Memref sig .tc .vmem S256x2 .i32).view.readAt (Elt F) (Rect.unit (s := S256x2) ![0, 0] S256x1.size inb_S256x2_S256x1_0_0).toLoadRect I
def ldI1 (I : (cc0_stg2_0 : Ref sig .tc).ty.Contents (Elt F)) : Vec F S256x1 .i32 :=
  (iM : Memref sig .tc .vmem S256x2 .i32).view.readAt (Elt F) (Rect.unit (s := S256x2) ![0, 1] S256x1.size inb_S256x2_S256x1_0_1).toLoadRect I
def ldE0 (E : (cc0_stg3_0 : Ref sig .tc).ty.Contents (Elt F)) : Vec F S1x128x256 .f32 :=
  (eM : Memref sig .tc .vmem S2x128x256 .f32).view.readAt (Elt F) (Rect.unit (s := S2x128x256) ![0, 0, 0] S1x128x256.size inb_S2x128x256_S1x128x256_0_0_0).toLoadRect E
def ldE1 (E : (cc0_stg3_0 : Ref sig .tc).ty.Contents (Elt F)) : Vec F S1x128x256 .f32 :=
  (eM : Memref sig .tc .vmem S2x128x256 .f32).view.readAt (Elt F) (Rect.unit (s := S2x128x256) ![1, 0, 0] S1x128x256.size inb_S2x128x256_S1x128x256_1_0_0).toLoadRect E

/-- A device's own contribution to the whole result: the weighted products with its two experts. -/
def accv (c : Dev nD) (x : (cc0_stg0_0 : Ref sig .tc).ty.Contents (Elt F)) (w : (cc0_stg1_0 : Ref sig .tc).ty.Contents (Elt F))
    (I : (cc0_stg2_0 : Ref sig .tc).ty.Contents (Elt F)) (E : (cc0_stg3_0 : Ref sig .tc).ty.Contents (Elt F)) : (cc0_stg4_0 : Ref sig .tc).ty.Contents (Elt F) :=
  k0_pay11 (v2w c) (k0_pay1 x) (k0_pay3 (F := F) (ldI0 I)) (k0_pay4 (F := F) (ldI1 I)) (k0_pay5 (k0_pay1 x) w (ldI0 I)) (k0_pay6 (k0_pay1 x) w (ldI1 I))
    (k0_pay7 (k0_pay1 x) w (ldI0 I) (ldI1 I)) k0_pay8 (k0_pay9 (v2w c) (k0_pay1 x) w (ldI0 I) (ldI1 I)) (k0_pay10 (v2w c) (k0_pay1 x) w (ldI0 I) (ldI1 I)) (ldE0 E) (ldE1 E)
/-- The same, rounded, as it lies in the send buffer. -/
def sbv (c : Dev nD) (x : (cc0_stg0_0 : Ref sig .tc).ty.Contents (Elt F)) (w : (cc0_stg1_0 : Ref sig .tc).ty.Contents (Elt F))
    (I : (cc0_stg2_0 : Ref sig .tc).ty.Contents (Elt F)) (E : (cc0_stg3_0 : Ref sig .tc).ty.Contents (Elt F)) : (cc0_scratch0 : Ref sig .tc).ty.Contents (Elt F) :=
  k0_pay12 (v2w c) (k0_pay1 x) (k0_pay3 (F := F) (ldI0 I)) (k0_pay4 (F := F) (ldI1 I)) (k0_pay5 (k0_pay1 x) w (ldI0 I)) (k0_pay6 (k0_pay1 x) w (ldI1 I))
    (k0_pay7 (k0_pay1 x) w (ldI0 I) (ldI1 I)) k0_pay8 (k0_pay9 (v2w c) (k0_pay1 x) w (ldI0 I) (ldI1 I)) (k0_pay10 (v2w c) (k0_pay1 x) w (ldI0 I) (ldI1 I)) (ldE0 E) (ldE1 E)

/-- 32 rows of the result buffer. -/
def ldO (d : Dev nD) (f : (cc0_stg4_0 : Ref sig .tc).ty.Contents (Elt F)) : Vec F S32x256 .f32 :=
  (oM : Memref sig .tc .vmem S256x256 .f32).view.readAt (Elt F) (chunkRect d).toLoadRect f
/-- The result buffer with 32 rows replaced. -/
def outw (d : Dev nD) (f : (cc0_stg4_0 : Ref sig .tc).ty.Contents (Elt F)) (w : S32x256.Idx → Elt F .f32) : (cc0_stg4_0 : Ref sig .tc).ty.Contents (Elt F) :=
  ((oM : Memref sig .tc .vmem S256x256 .f32).access (chunkRect d)).write (Elt F) f w Finset.univ

variable (sb : Dev nD → (cc0_scratch0 : Ref sig .tc).ty.Contents (Elt F)) (rd : Dev nD → (cc0_scratch2 : Ref sig .tc).ty.Contents (Elt F))

/-- The rows device `c` receives from distance `o`, as loaded. -/
abbrev ch (c : Dev nD) (o : Fin 7) : Vec F S1x32x256 .bf16 := up (chunkOf sb (pr c o) c)

/-- Device `c`'s rows after each of the first five additions; and after all seven. -/
def s5 (c : Dev nD) (own : Vec F S32x256 .f32) : FVec F S32x256 .f32 :=
  k0_pay16 (k0_pay15 (k0_pay14 (k0_pay13 own (ch sb c 0)) (ch sb c 1)) (ch sb c 2) (ch sb c 3)) (ch sb c 4)
def ckv (c : Dev nD) (own : Vec F S32x256 .f32) : FVec F S32x256 .f32 := k0_pay17 (s5 sb c own) (ch sb c 5) (ch sb c 6)
/-- The same rounded, as sent to everyone. -/
def redv (c : Dev nD) (own : Vec F S32x256 .f32) : (cc0_scratch2 : Ref sig .tc).ty.Contents (Elt F) := k0_pay19 (k0_pay18 (s5 sb c own) (ch sb c 5) (ch sb c 6))

/-- The result buffer after the rows from distance `o` have been put into it. -/
def putv (c : Dev nD) (o : Fin 7) (f : (cc0_stg4_0 : Ref sig .tc).ty.Contents (Elt F)) : (cc0_stg4_0 : Ref sig .tc).ty.Contents (Elt F) :=
  outw (pr c o) f (k0_pay20 (up (rd (pr c o))))

/-! ## Loads and stores of whole buffers -/

variable (K : Dev nD × Fin 33 → ℕ) (c : Dev nD)

abbrev stgPts (b : Ref sig .tc) (f : Buf (Elt F) ((c : Thread nD τ).loc b)) : sProp 𝕄 := ((c : Thread nD τ).loc b) ↦{fullShare} f

section Steps

theorem chunk_load_congr {off : Fin 2 → Nat} (d : Dev nD) (h : off = ![32 * d.val, 0]) (hi : ∀ a, off a + S32x256.size a ≤ S256x256.size a)
    (f : (cc0_stg4_0 : Ref sig .tc).ty.Contents (Elt F)) :
    (oM : Memref sig .tc .vmem S256x256 .f32).view.readAt (Elt F) (Rect.unit (s := S256x256) off S32x256.size hi).toLoadRect f = ldO d f := by
  subst h; rfl
theorem chunk_store_congr {off : Fin 2 → Nat} (d : Dev nD) (h : off = ![32 * d.val, 0]) (hi : ∀ a, off a + S32x256.size a ≤ S256x256.size a)
    (f : (cc0_stg4_0 : Ref sig .tc).ty.Contents (Elt F)) (w : S32x256.Idx → Elt F .f32) :
    ((oM : Memref sig .tc .vmem S256x256 .f32).access (Rect.unit (s := S256x256) off S32x256.size hi)).write (Elt F) f w Finset.univ = outw d f w := by
  subst h; rfl

/-- 32 rows of the result buffer are loaded. -/
theorem step_ldO {α : Type} {Q : α → sProp 𝕄} {k' : (S32x256.Idx → Elt F .f32) → Prog (TpuEff nD τ sig (Elt F) Λ₀ .tc) α} (d : Dev nD)
    (f : Buf (Elt F) ((c : Thread nD τ).loc cc0_stg4_0)) {off : Fin 2 → Nat} (h : off = ![32 * d.val, 0])
    (hi : ∀ a, off a + S32x256.size a ≤ S256x256.size a) {hl} :
    stgPts c cc0_stg4_0 f ⊢ iprop((stgPts c cc0_stg4_0 f -∗ wp frame (wpE (defs₀ (F := F)) 𝒱₀ (c : Thread nD τ) none) Set.univ (k' (ldO d f)) Q)
      -∗ wp frame (wpE (defs₀ (F := F)) 𝒱₀ (c : Thread nD τ) none) Set.univ
          (.op (.load oM (Rect.unit (s := S256x256) off S32x256.size hi).toLoadRect hl) k') Q) := by
  iintro H Hk
  iapply (wp_load 𝒱₀ (c : Thread nD τ) none Set.univ (m := oM) (Finset.subset_univ _)) $$ H; iintro H
  rw [chunk_load_congr d h hi]
  iapply Hk; iexact H
/-- 32 rows of the result buffer are stored. -/
theorem step_stO {α : Type} {Q : α → sProp 𝕄} {k' : PUnit → Prog (TpuEff nD τ sig (Elt F) Λ₀ .tc) α} (d : Dev nD)
    (f : Buf (Elt F) ((c : Thread nD τ).loc cc0_stg4_0)) (w : S32x256.Idx → Elt F .f32) {off : Fin 2 → Nat} (h : off = ![32 * d.val, 0])
    (hi : ∀ a, off a + S32x256.size a ≤ S256x256.size a) {hx} {hm} :
    stgPts c cc0_stg4_0 f ⊢ iprop((stgPts c cc0_stg4_0 (outw d f w) -∗ wp frame (wpE (defs₀ (F := F)) 𝒱₀ (c : Thread nD τ) none) Set.univ (k' ⟨⟩) Q)
      -∗ wp frame (wpE (defs₀ (F := F)) 𝒱₀ (c : Thread nD τ) none) Set.univ
          (.op (.store oM (Rect.unit (s := S256x256) off S32x256.size hi) w Finset.univ hx hm) k') Q) := by
  iintro H Hk
  iapply (wp_store 𝒱₀ (c : Thread nD τ) none Set.univ (m := oM) (r := Rect.unit (s := S256x256) off S32x256.size hi) (Mk := Finset.univ) (Finset.subset_univ _)) $$ H; iintro H
  rw [chunk_store_congr d h hi]
  iapply Hk; iexact H

/-- What device `c` needs for the arrival from distance `o`, and what it has after it. -/
def in1 (o : Fin 7) : sProp 𝕄 := iprop(cred (tallyAt (dCell 1 (pr c o) c) () N) ∗ atPos ER (dCell 1 (pr c o) c) 0 ∅ 0)
def in3 (o : Fin 7) : sProp 𝕄 := iprop(cred (tallyAt (dCell 3 (pr c o) c) () N) ∗ atPos ER (dCell 3 (pr c o) c) 0 ∅ 0)
def done1 (o : Fin 7) : sProp 𝕄 := iprop((∃ f, slotRPts (F := F) c (pr c o) f) ∗ semVal (dCell 1 (pr c o) c) 0)
def done3 (o : Fin 7) : sProp 𝕄 := iprop((∃ f, slotGPts (F := F) c (pr c o) f) ∗ semVal (dCell 3 (pr c o) c) 0)

/-- The arrival of the first exchange from distance `o` is awaited and read. -/
theorem step_recv1 {α : Type} {Q : α → sProp 𝕄} {k' : (S1x32x256.Idx → Elt F .bf16) → Prog (TpuEff nD τ sig (Elt F) Λ₀ .tc) α} (o : Fin 7) (q : DmaSem sig) (hq : q = dsem 1 (pr c o))
    {sps spd : Space} {s s' : Shape} {e e' : EltTy} {src : Memref sig .tc sps s e} {dst : Memref sig .tc spd s' e'}
    {hs : src.view.WordExact} {hd : dst.view.WordExact} (hN : dst.view.dmaCredit = N)
    {off : Fin 3 → Nat} (h : off = ![(pr c o).val, 0, 0]) (hi : ∀ a, off a + S1x32x256.size a ≤ S8x32x256.size a) {hl} :
    records sb rd K ⊢ iprop(levAts L lv -∗ ow c (O₂ c) -∗ in1 c o
      -∗ (ow c (O₂ c) -∗ done1 c o -∗ wp frame (wpE (defs₀ (F := F)) 𝒱₀ (c : Thread nD τ) none) Set.univ (k' (ch sb c o)) Q)
      -∗ wp frame (wpE (defs₀ (F := F)) 𝒱₀ (c : Thread nD τ) none) Set.univ
          (.op (.waitDma2 q src dst hs hd) fun _ => .op (.load rM (Rect.unit (s := S8x32x256) off S1x32x256.size hi).toLoadRect hl) k') Q) := by
  unfold in1 done1
  iintro #HR #Hlev HO ⟨Hc, Hat⟩ Hk
  iapply (step_wait sb rd K c (used1 c (pr c o) (pr_ne c o)) q hq hN (O₂ c) (mayWait_r1 c (pr c o))) $$ HR Hlev HO Hc Hat
  iintro HO Hp Hz
  ihave Hp := (BIBase.Entails.of_eq (dmaPay1 sb rd c (pr c o))) $$ Hp
  iapply (step_loadR c (pr c o) (chunkOf sb (pr c o) c) h hi) $$ Hp
  iintro ⟨%f, -, H⟩
  iapply Hk $$ HO [H Hz]
  isplitl [H]
  · iexists f; iexact H
  · iexact Hz

/-- The arrival of the second exchange from distance `o` is awaited; -/
theorem step_wait3 {α : Type} {Q : α → sProp 𝕄} {k : PUnit → Prog (TpuEff nD τ sig (Elt F) Λ₀ .tc) α} (o : Fin 7) (q : DmaSem sig) (hq : q = dsem 3 (pr c o))
    {sps spd : Space} {s s' : Shape} {e e' : EltTy} {src : Memref sig .tc sps s e} {dst : Memref sig .tc spd s' e'}
    {hs : src.view.WordExact} {hd : dst.view.WordExact} (hN : dst.view.dmaCredit = N) :
    records sb rd K ⊢ iprop(levAts L lv -∗ ow c 0 -∗ in3 c o
      -∗ (ow c 0 -∗ gotG c (pr c o) (rd (pr c o)) -∗ semVal (dCell 3 (pr c o) c) 0 -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 q src dst hs hd) k) Q) := by
  unfold in3
  iintro #HR #Hlev HO ⟨Hc, Hat⟩ Hk
  iapply (step_wait sb rd K c (used3 c (pr c o) (pr_ne c o)) q hq hN 0 (by rw [MayWait_zero]; iintro -; iempintro)) $$ HR Hlev HO Hc Hat
  iintro HO Hp Hz
  ihave Hp := (BIBase.Entails.of_eq (dmaPay3 sb rd c (pr c o))) $$ Hp
  iapply Hk $$ HO Hp Hz
/-- it is read and put into the result. -/
theorem step_put {α : Type} {Q : α → sProp 𝕄} {k : PUnit → Prog (TpuEff nD τ sig (Elt F) Λ₀ .tc) α} (o : Fin 7)
    (f : Buf (Elt F) ((c : Thread nD τ).loc cc0_stg4_0)) (p : Vec F S1x32x256 .bf16 → FVec F S32x256 .f32) (hp : p = k0_pay20)
    {off : Fin 3 → Nat} (h : off = ![(pr c o).val, 0, 0]) (hi : ∀ a, off a + S1x32x256.size a ≤ S8x32x256.size a) {hl}
    {off2 : Fin 2 → Nat} (h2 : off2 = ![32 * (pr c o).val, 0]) (hi2 : ∀ a, off2 a + S32x256.size a ≤ S256x256.size a) {hl2} {hx} {hm} :
    gotG c (pr c o) (rd (pr c o)) ⊢ iprop(stgPts c cc0_stg4_0 f -∗ semVal (dCell 3 (pr c o) c) 0
      -∗ (stgPts c cc0_stg4_0 (putv rd c o f) -∗ done3 c o -∗ wp frame (wpE (defs₀ (F := F)) 𝒱₀ (c : Thread nD τ) none) Set.univ (k ⟨⟩) Q)
      -∗ wp frame (wpE (defs₀ (F := F)) 𝒱₀ (c : Thread nD τ) none) Set.univ
          (.op (.load gM (Rect.unit (s := S8x32x256) off S1x32x256.size hi).toLoadRect hl) fun v =>
            .op (.load oM (Rect.unit (s := S256x256) off2 S32x256.size hi2).toLoadRect hl2) fun _ =>
              .op (.store oM (Rect.unit (s := S256x256) off2 S32x256.size hi2) (p v) Finset.univ hx hm) k) Q) := by
  subst hp
  unfold done3 putv
  iintro Hg Ho Hz Hk
  iapply (step_loadG c (pr c o) (rd (pr c o)) h hi) $$ Hg
  iintro ⟨%g, -, H⟩
  iapply (step_ldO c (pr c o) f h2 hi2) $$ Ho; iintro Ho
  iapply (step_stO c (pr c o) f _ h2 hi2) $$ Ho; iintro Ho
  iapply Hk $$ Ho [H Hz]
  isplitl [H]
  · iexists g; iexact H
  · iexact Hz

/-- What device `c` needs for a departure, and what it has after it. -/
def out0 (o : Fin 7) : sProp 𝕄 := iprop(cred (tallyAt (dCell 0 (sc o) c) () N) ∗ atPos ER (dCell 0 (sc o) c) 0 ∅ 0)
def out2 (o : Fin 7) : sProp 𝕄 := iprop(cred (tallyAt (dCell 2 (sc o) c) () N) ∗ atPos ER (dCell 2 (sc o) c) 0 ∅ 0)
def back0 (o : Fin 7) : sProp 𝕄 := iprop(chunkPts c (pr c o) (sb c) ∗ semVal (dCell 0 (sc o) c) 0)
def back2 (o : Fin 7) : sProp 𝕄 := iprop(redPts c o (rd c) ∗ semVal (dCell 2 (sc o) c) 0)

/-- A departure of the first exchange is awaited; -/
theorem step_wait0 {α : Type} {Q : α → sProp 𝕄} {k : PUnit → Prog (TpuEff nD τ sig (Elt F) Λ₀ .tc) α} (o : Fin 7) (q : DmaSem sig) (hq : q = dsem 0 (sc o))
    {sps spd : Space} {s s' : Shape} {e e' : EltTy} {src : Memref sig .tc sps s e} {dst : Memref sig .tc spd s' e'}
    {hs : src.view.WordExact} {hd : dst.view.WordExact} (hN : dst.view.dmaCredit = N) :
    records sb rd K ⊢ iprop(levAts L lv -∗ ow c 0 -∗ out0 c o
      -∗ (ow c 0 -∗ back0 sb c o -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 q src dst hs hd) k) Q) := by
  unfold out0 back0
  iintro #HR #Hlev HO ⟨Hc, Hat⟩ Hk
  iapply (step_wait sb rd K c (used0 c o) q hq hN 0 (by rw [MayWait_zero]; iintro -; iempintro)) $$ HR Hlev HO Hc Hat
  iintro HO Hp Hz
  ihave Hp := (BIBase.Entails.of_eq (dmaPay0 sb rd c o)) $$ Hp
  iapply Hk $$ HO [Hp Hz]
  isplitl [Hp]
  · iexact Hp
  · iexact Hz
/-- and of the second. -/
theorem step_wait2 {α : Type} {Q : α → sProp 𝕄} {k : PUnit → Prog (TpuEff nD τ sig (Elt F) Λ₀ .tc) α} (o : Fin 7) (q : DmaSem sig) (hq : q = dsem 2 (sc o))
    {sps spd : Space} {s s' : Shape} {e e' : EltTy} {src : Memref sig .tc sps s e} {dst : Memref sig .tc spd s' e'}
    {hs : src.view.WordExact} {hd : dst.view.WordExact} (hN : dst.view.dmaCredit = N) :
    records sb rd K ⊢ iprop(levAts L lv -∗ ow c 0 -∗ out2 c o
      -∗ (ow c 0 -∗ back2 rd c o -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 q src dst hs hd) k) Q) := by
  unfold out2 back2
  iintro #HR #Hlev HO ⟨Hc, Hat⟩ Hk
  iapply (step_wait sb rd K c (used2 c o) q hq hN 0 (by rw [MayWait_zero]; iintro -; iempintro)) $$ HR Hlev HO Hc Hat
  iintro HO Hp Hz
  ihave Hp := (BIBase.Entails.of_eq (dmaPay2 sb rd c o)) $$ Hp
  iapply Hk $$ HO [Hp Hz]
  isplitl [Hp]
  · iexact Hp
  · iexact Hz

end Steps

omit [FloatOps F] in
/-- A store of a whole buffer leaves what was stored. -/
theorem write_o (f w : (cc0_stg4_0 : Ref sig .tc).ty.Contents (Elt F)) :
    (oM.access (Rect.unit (s := S256x256) ![0, 0] S256x256.size inb_S256x256_S256x256_0_0) : View sig .tc _ _ _).write (Elt F) f w Finset.univ = w :=
  Memref.write_access_unit_zero_univ (Elt F) cc0_stg4_0 hz2 _ f w
omit [FloatOps F] in
theorem write_s (f w : (cc0_scratch0 : Ref sig .tc).ty.Contents (Elt F)) :
    (sM.access (Rect.unit (s := S256x256) ![0, 0] S256x256.size inb_S256x256_S256x256_0_0) : View sig .tc _ _ _).write (Elt F) f w Finset.univ = w :=
  Memref.write_access_unit_zero_univ (Elt F) cc0_scratch0 hz2 _ f w
omit [FloatOps F] in
theorem write_d (f w : (cc0_scratch2 : Ref sig .tc).ty.Contents (Elt F)) :
    (dM.access (Rect.unit (s := S32x256) ![0, 0] S32x256.size inb_S32x256_S32x256_0_0) : View sig .tc _ _ _).write (Elt F) f w Finset.univ = w :=
  Memref.write_access_unit_zero_univ (Elt F) cc0_scratch2 hz2 _ f w

/-- The first of a list of debts stands apart from the rest. -/
theorem ow_cons (f : Fin 7 → CellTallies nD τ sig Unit) (o : Fin 7) (l : List (Fin 7)) (z : CellTallies nD τ sig Unit) :
    ow (F := F) c (sumL f (o :: l) z) ⊢ ow c (sumL f l z + f o) := BIBase.Entails.rfl

/-- With nothing left in the list the rest is owed. -/
theorem ow_nil (f : Fin 7 → CellTallies nD τ sig Unit) (z : CellTallies nD τ sig Unit) :
    ow (F := F) c (sumL f [] z) ⊢ ow c z := BIBase.Entails.rfl

omit [FloatOps F] in
/-- A load of a whole buffer reads its contents. -/
theorem read_x (f : (cc0_stg0_0 : Ref sig .tc).ty.Contents (Elt F)) :
    (xM.view : View sig .tc _ _ _).readAt (Elt F) (Rect.unit (s := S256x128) ![0, 0] S256x128.size inb_S256x128_S256x128_0_0).toLoadRect f = f :=
  Memref.readAt_unit_zero (Elt F) cc0_stg0_0 hz2 _ f
omit [FloatOps F] in
theorem read_w (f : (cc0_stg1_0 : Ref sig .tc).ty.Contents (Elt F)) :
    (wM.view : View sig .tc _ _ _).readAt (Elt F) (Rect.unit (s := S128x16) ![0, 0] S128x16.size inb_S128x16_S128x16_0_0).toLoadRect f = f :=
  Memref.readAt_unit_zero (Elt F) cc0_stg1_0 hz2 _ f

end Cert.Moe

end
-- ==== Proof.RunA.lean ====
/-
# The run of the body, first stretch

Signals, loads, the products, the barrier.
-/
module

public import proofs.«01_k».proof.Proof.Conts

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (sb : Dev nD → (cc0_scratch0 : Ref sig .tc).ty.Contents (Elt F)) (rd : Dev nD → (cc0_scratch2 : Ref sig .tc).ty.Contents (Elt F))

variable (sb : Dev nD → (cc0_scratch0 : Ref sig .tc).ty.Contents (Elt F)) (rd : Dev nD → (cc0_scratch2 : Ref sig .tc).ty.Contents (Elt F))
variable (K : Dev nD × Fin 33 → ℕ) (c : Dev nD)

/-- The first two signals. -/
theorem part1 {Q : (Σ' (d0 : Dev nD) (v2 : BitVec 32) (v3 : Sems sig S_) (v30 : BitVec 32) (c8_i32_18 : BitVec 32), BitVec 1) → sProp 𝕄}  :
    records sb rd K ⊢ iprop(ow c (sumL (fB c) [0, 1, 2, 3, 4, 5, 6] (O₁ c))
      -∗ sigRes c 0
      -∗ sigRes c 1
      -∗ (∀ w : BitVec 32, ∀ b : BitVec 1, ow c (sumL (fB c) [2, 3, 4, 5, 6] (O₁ c)) -∗ Q ⟨c, v2w c, (SemArray.scalar (sig.barrier 0 rfl)), w, 8#32, b⟩)
      -∗ wp frame (wpE (defs₀ (F := F)) 𝒱₀ (c : Thread nD τ) none) Set.univ (k0_part1 (F := F) xM (Memref.isWhole_whole _) wM (Memref.isWhole_whole _) iM (Memref.isWhole_whole _) eM (Memref.isWhole_whole _) oM (Memref.isWhole_whole _) sM (Memref.isWhole_whole _) rM (Memref.isWhole_whole _) dM (Memref.isWhole_whole _) gM (Memref.isWhole_whole _) cc0_scratch4 cc0_scratch5 cc0_scratch6 cc0_scratch7 ) Q) := by
  rw [k0_part1_eq_skeleton]; unfold k0_part1_skel
  simp only [semSignalWord, semWaitWord, Prog.lift, Prog.bind_op, Prog.bind_ret, Prog.pure_eq_ret, wp_deviceId]
  unfold v2w
  iintro #HR HO Hs0 Hs1 HQ
  ihave HO := (ow_cons c (fB c) 0 [1, 2, 3, 4, 5, 6] (O₁ c)) $$ HO
  iapply (step_signal sb rd K c 0 _ (dev1_eq c) _ rfl (sumL (fB c) [1, 2, 3, 4, 5, 6] (O₁ c))) $$ HR HO Hs0
  iintro HO
  ihave HO := (ow_cons c (fB c) 1 [2, 3, 4, 5, 6] (O₁ c)) $$ HO
  iapply (step_signal sb rd K c 1 _ (dev2_eq c) _ rfl (sumL (fB c) [2, 3, 4, 5, 6] (O₁ c))) $$ HR HO Hs1
  iintro HO
  rw [wp_ret]; imodintro
  iapply HQ $$ HO

/-- The next two. -/
theorem part2 {Q : (Σ' (v59 : BitVec 32) (v64 : BitVec 1), BitVec 32) → sProp 𝕄} (v2 : BitVec 32) (v30 : BitVec 32) (c8 : BitVec 32) (v31 : BitVec 1) :
    records sb rd K ⊢ iprop(ow c (sumL (fB c) [2, 3, 4, 5, 6] (O₁ c))
      -∗ sigRes c 2
      -∗ sigRes c 3
      -∗ (∀ a : BitVec 32, ∀ b : BitVec 1, ∀ e : BitVec 32, ow c (sumL (fB c) [4, 5, 6] (O₁ c)) -∗ Q ⟨a, b, e⟩)
      -∗ wp frame (wpE (defs₀ (F := F)) 𝒱₀ (c : Thread nD τ) none) Set.univ (k0_part2 (F := F) xM (Memref.isWhole_whole _) wM (Memref.isWhole_whole _) iM (Memref.isWhole_whole _) eM (Memref.isWhole_whole _) oM (Memref.isWhole_whole _) sM (Memref.isWhole_whole _) rM (Memref.isWhole_whole _) dM (Memref.isWhole_whole _) gM (Memref.isWhole_whole _) cc0_scratch4 cc0_scratch5 cc0_scratch6 cc0_scratch7 c v2 (SemArray.scalar (sig.barrier 0 rfl)) v30 c8 v31) Q) := by
  rw [k0_part2_eq_skeleton]; unfold k0_part2_skel
  simp only [semSignalWord, semWaitWord, Prog.lift, Prog.bind_op, Prog.bind_ret, Prog.pure_eq_ret, wp_deviceId]
  iintro #HR HO Hs2 Hs3 HQ
  ihave HO := (ow_cons c (fB c) 2 [3, 4, 5, 6] (O₁ c)) $$ HO
  iapply (step_signal sb rd K c 2 _ (dev3_eq c) _ rfl (sumL (fB c) [3, 4, 5, 6] (O₁ c))) $$ HR HO Hs2
  iintro HO
  ihave HO := (ow_cons c (fB c) 3 [4, 5, 6] (O₁ c)) $$ HO
  iapply (step_signal sb rd K c 3 _ (dev4_eq c) _ rfl (sumL (fB c) [4, 5, 6] (O₁ c))) $$ HR HO Hs3
  iintro HO
  rw [wp_ret]; imodintro
  iapply HQ $$ HO

/-- The last three, and the tokens are loaded. -/
theorem part3 {Q : FVec F S256x128 .f32 → sProp 𝕄} (v2 : BitVec 32) (v59 : BitVec 32) (v64 : BitVec 1) (v65 : BitVec 32) (x : (cc0_stg0_0 : Ref sig .tc).ty.Contents (Elt F)) :
    records sb rd K ⊢ iprop(ow c (sumL (fB c) [4, 5, 6] (O₁ c))
      -∗ sigRes c 4
      -∗ sigRes c 5
      -∗ sigRes c 6
      -∗ stgPts c cc0_stg0_0 x
      -∗ (ow c (O₁ c) -∗ stgPts c cc0_stg0_0 x -∗ Q (k0_pay1 x))
      -∗ wp frame (wpE (defs₀ (F := F)) 𝒱₀ (c : Thread nD τ) none) Set.univ (k0_part3 (F := F) xM (Memref.isWhole_whole _) wM (Memref.isWhole_whole _) iM (Memref.isWhole_whole _) eM (Memref.isWhole_whole _) oM (Memref.isWhole_whole _) sM (Memref.isWhole_whole _) rM (Memref.isWhole_whole _) dM (Memref.isWhole_whole _) gM (Memref.isWhole_whole _) cc0_scratch4 cc0_scratch5 cc0_scratch6 cc0_scratch7 c v2 (SemArray.scalar (sig.barrier 0 rfl)) v59 v64 v65) Q) := by
  rw [k0_part3_eq_skeleton]; unfold k0_part3_skel
  simp only [semSignalWord, semWaitWord, Prog.lift, Prog.bind_op, Prog.bind_ret, Prog.pure_eq_ret, wp_deviceId]
  iintro #HR HO Hs4 Hs5 Hs6 Hx HQ
  ihave HO := (ow_cons c (fB c) 4 [5, 6] (O₁ c)) $$ HO
  iapply (step_signal sb rd K c 4 _ (dev5_eq c) _ rfl (sumL (fB c) [5, 6] (O₁ c))) $$ HR HO Hs4
  iintro HO
  ihave HO := (ow_cons c (fB c) 5 [6] (O₁ c)) $$ HO
  iapply (step_signal sb rd K c 5 _ (dev6_eq c) _ rfl (sumL (fB c) [6] (O₁ c))) $$ HR HO Hs5
  iintro HO
  ihave HO := (ow_cons c (fB c) 6 [] (O₁ c)) $$ HO
  iapply (step_signal sb rd K c 6 _ (dev7_eq c) _ rfl (sumL (fB c) [] (O₁ c))) $$ HR HO Hs6
  iintro HO
  ihave HO := (ow_nil c (fB c) (O₁ c)) $$ HO
  iapply (wp_load 𝒱₀ (c : Thread nD τ) none Set.univ (m := xM) (Finset.subset_univ _)) $$ Hx; iintro Hx
  rw [read_x]
  rw [wp_ret]; imodintro
  iapply HQ $$ HO Hx

/-- The gate weights and the route indices are loaded. -/
theorem part4 {Q : (Σ' (v110 : IVec S256x1 32) (v112 : IVec S256x1 32) (v119 : FVec F S256x1 .f32) (v125 : FVec F S256x1 .f32) (v126 : FVec F S256x1 .f32) (v127 : FVec F S256x256 .f32) (v134 : FVec F S256x1 .f32), FVec F S256x1 .f32) → sProp 𝕄} (v2 : BitVec 32) (v96 : FVec F S256x128 .f32) (w : (cc0_stg1_0 : Ref sig .tc).ty.Contents (Elt F)) (I : (cc0_stg2_0 : Ref sig .tc).ty.Contents (Elt F)) :
    records sb rd K ⊢ iprop(stgPts c cc0_stg1_0 w
      -∗ stgPts c cc0_stg2_0 I
      -∗ (stgPts c cc0_stg1_0 w -∗ stgPts c cc0_stg2_0 I -∗ Q ⟨k0_pay3 (F := F) (ldI0 I), k0_pay4 (F := F) (ldI1 I), k0_pay5 v96 w (ldI0 I), k0_pay6 v96 w (ldI1 I), k0_pay7 v96 w (ldI0 I) (ldI1 I), k0_pay8 (F := F), k0_pay9 v2 v96 w (ldI0 I) (ldI1 I), k0_pay10 v2 v96 w (ldI0 I) (ldI1 I)⟩)
      -∗ wp frame (wpE (defs₀ (F := F)) 𝒱₀ (c : Thread nD τ) none) Set.univ (k0_part4 (F := F) xM (Memref.isWhole_whole _) wM (Memref.isWhole_whole _) iM (Memref.isWhole_whole _) eM (Memref.isWhole_whole _) oM (Memref.isWhole_whole _) sM (Memref.isWhole_whole _) rM (Memref.isWhole_whole _) dM (Memref.isWhole_whole _) gM (Memref.isWhole_whole _) cc0_scratch4 cc0_scratch5 cc0_scratch6 cc0_scratch7 v2 v96) Q) := by
  rw [k0_part4_eq_skeleton]; unfold k0_part4_skel
  simp only [semSignalWord, semWaitWord, Prog.lift, Prog.bind_op, Prog.bind_ret, Prog.pure_eq_ret, wp_deviceId]
  unfold ldI0 ldI1
  iintro #HR Hw Hi HQ
  iapply (wp_load 𝒱₀ (c : Thread nD τ) none Set.univ (m := wM) (Finset.subset_univ _)) $$ Hw; iintro Hw
  rw [read_w]
  iapply (wp_load 𝒱₀ (c : Thread nD τ) none Set.univ (m := iM) (Finset.subset_univ _)) $$ Hi; iintro Hi
  iapply (wp_load 𝒱₀ (c : Thread nD τ) none Set.univ (m := iM) (Finset.subset_univ _)) $$ Hi; iintro Hi
  rw [wp_ret]; imodintro
  iapply HQ $$ Hw Hi

/-- The products are formed and stored; the barrier is passed. -/
theorem part5 {Q : (Σ' (v173 : BitVec 32), BitVec 32) → sProp 𝕄} (v2 : BitVec 32) (v96 : FVec F S256x128 .f32) (v110 : IVec S256x1 32) (v112 : IVec S256x1 32) (v119 : FVec F S256x1 .f32) (v125 : FVec F S256x1 .f32) (v126 : FVec F S256x1 .f32) (v127 : FVec F S256x256 .f32) (v134 : FVec F S256x1 .f32) (v139 : FVec F S256x1 .f32) (E : (cc0_stg3_0 : Ref sig .tc).ty.Contents (Elt F)) (f : (cc0_stg4_0 : Ref sig .tc).ty.Contents (Elt F)) (g : (cc0_scratch0 : Ref sig .tc).ty.Contents (Elt F)) :
    records sb rd K ⊢ iprop(levAts L lv
      -∗ ow c (O₁ c)
      -∗ cred (tallyAt (barCell c) () 7)
      -∗ atPos ER (barCell c) 0 ∅ 0
      -∗ stgPts c cc0_stg3_0 E
      -∗ stgPts c cc0_stg4_0 f
      -∗ stgPts c cc0_scratch0 g
      -∗ (∀ a : BitVec 32, ∀ b : BitVec 32, ow c (O₁ c) -∗ (bigSep Finset.univ fun d => barPay (F := F) c d) -∗ semVal (barCell c) 0 -∗ stgPts c cc0_stg3_0 E -∗ stgPts c cc0_stg4_0 (k0_pay11 v2 v96 v110 v112 v119 v125 v126 v127 v134 v139 (ldE0 E) (ldE1 E)) -∗ stgPts c cc0_scratch0 (k0_pay12 v2 v96 v110 v112 v119 v125 v126 v127 v134 v139 (ldE0 E) (ldE1 E)) -∗ Q ⟨a, b⟩)
      -∗ wp frame (wpE (defs₀ (F := F)) 𝒱₀ (c : Thread nD τ) none) Set.univ (k0_part5 (F := F) xM (Memref.isWhole_whole _) wM (Memref.isWhole_whole _) iM (Memref.isWhole_whole _) eM (Memref.isWhole_whole _) oM (Memref.isWhole_whole _) sM (Memref.isWhole_whole _) rM (Memref.isWhole_whole _) dM (Memref.isWhole_whole _) gM (Memref.isWhole_whole _) cc0_scratch4 cc0_scratch5 cc0_scratch6 cc0_scratch7 v2 (SemArray.scalar (sig.barrier 0 rfl)) v96 v110 v112 v119 v125 v126 v127 v134 v139) Q) := by
  rw [k0_part5_eq_skeleton]; unfold k0_part5_skel
  simp only [semSignalWord, semWaitWord, Prog.lift, Prog.bind_op, Prog.bind_ret, Prog.pure_eq_ret, wp_deviceId]
  unfold ldE0 ldE1
  iintro #HR #Hlev HO Hcr Hat He Ho Hs HQ
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  iapply (wp_load 𝒱₀ (c : Thread nD τ) none Set.univ (m := oM) (Finset.subset_univ _)) $$ Ho; iintro Ho
  iapply (wp_store 𝒱₀ (c : Thread nD τ) none Set.univ (m := oM) (r := Rect.unit (s := S256x256) ![0, 0] S256x256.size inb_S256x256_S256x256_0_0) (Mk := Finset.univ) (Finset.subset_univ _)) $$ Ho; iintro Ho
  rw [write_o]
  iapply (wp_load 𝒱₀ (c : Thread nD τ) none Set.univ (m := sM) (Finset.subset_univ _)) $$ Hs; iintro Hs
  iapply (wp_store 𝒱₀ (c : Thread nD τ) none Set.univ (m := sM) (r := Rect.unit (s := S256x256) ![0, 0] S256x256.size inb_S256x256_S256x256_0_0) (Mk := Finset.univ) (Finset.subset_univ _)) $$ Hs; iintro Hs
  rw [write_s]
  iapply (step_barrier sb rd K c _ rfl) $$ HR Hlev HO Hcr Hat
  iintro HO Hp Hz
  rw [wp_ret]; imodintro
  iapply HQ $$ HO Hp Hz He Ho Hs

end Cert.Moe

end
-- ==== Proof.RunB.lean ====
/-
# The run of the body, second stretch

The chunks depart; the arrivals are added up.
-/
module

public import proofs.«01_k».proof.Proof.Conts

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (sb : Dev nD → (cc0_scratch0 : Ref sig .tc).ty.Contents (Elt F)) (rd : Dev nD → (cc0_scratch2 : Ref sig .tc).ty.Contents (Elt F))

variable (sb : Dev nD → (cc0_scratch0 : Ref sig .tc).ty.Contents (Elt F)) (rd : Dev nD → (cc0_scratch2 : Ref sig .tc).ty.Contents (Elt F))
variable (K : Dev nD × Fin 33 → ℕ) (c : Dev nD)

theorem credN_R (off : Fin 3 → Nat) (hi : ∀ a, off a + S1x32x256.size a ≤ S8x32x256.size a) :
    ((rM.slice (Rect.unit (s := S8x32x256) off S1x32x256.size hi) (fun _ => rfl)).squeeze S32x256 squeezes_S1x32x256_S32x256).view.dmaCredit = N := rfl

/-- The first chunk departs. -/
theorem part6 {Q : PUnit → sProp 𝕄} (v2 : BitVec 32) (a : BitVec 32) (b : BitVec 32) :
    records sb rd K ⊢ iprop(ow c (sumL (fR 1 c) [0, 1, 2, 3, 4, 5, 6] (O₂ c))
      -∗ send1Res c 0
      -∗ chunkPts c (pr c 0) (sb c)
      -∗ (∃ f, slotRPts (F := F) (pr c 0) c f)
      -∗ (ow c (sumL (fR 1 c) [1, 2, 3, 4, 5, 6] (O₂ c)) -∗ cred (tallyAt (dCell 0 (sc 0) c) () N) -∗ Q ⟨⟩)
      -∗ wp frame (wpE (defs₀ (F := F)) 𝒱₀ (c : Thread nD τ) none) Set.univ (k0_part6 (F := F) xM (Memref.isWhole_whole _) wM (Memref.isWhole_whole _) iM (Memref.isWhole_whole _) eM (Memref.isWhole_whole _) oM (Memref.isWhole_whole _) sM (Memref.isWhole_whole _) rM (Memref.isWhole_whole _) dM (Memref.isWhole_whole _) gM (Memref.isWhole_whole _) cc0_scratch4 cc0_scratch5 cc0_scratch6 cc0_scratch7 c v2 a b) Q) := by
  rw [k0_part6_eq_skeleton]; unfold k0_part6_skel
  simp only [semSignalWord, semWaitWord, Prog.lift, Prog.bind_op, Prog.bind_ret, Prog.pure_eq_ret, wp_deviceId]
  iintro #HR HO Ht0 Hb0 Hd0 HQ
  ihave HO := (ow_cons c (fR 1 c) 0 [1, 2, 3, 4, 5, 6] (O₂ c)) $$ HO
  iapply (step_send1 sb rd K c 0 _ (dev8_eq c) _ (chunk_congr (off3_eq c 0) _ _) _ (slotR_congr (k0_off2_eq c) _ _) _ _
    (sem4_eq (sc 0) rfl _) (sem5_eq c (k0_off1_eq c) _) (sumL (fR 1 c) [1, 2, 3, 4, 5, 6] (O₂ c))) $$ HR HO Ht0 Hb0 Hd0
  iintro HO Hc0
  rw [wp_ret]; imodintro
  iapply HQ $$ HO Hc0

/-- Two more chunks depart. -/
theorem part7 {Q : BitVec 32 → sProp 𝕄} (v2 : BitVec 32) :
    records sb rd K ⊢ iprop(ow c (sumL (fR 1 c) [1, 2, 3, 4, 5, 6] (O₂ c))
      -∗ send1Res c 1
      -∗ chunkPts c (pr c 1) (sb c)
      -∗ (∃ f, slotRPts (F := F) (pr c 1) c f)
      -∗ send1Res c 2
      -∗ chunkPts c (pr c 2) (sb c)
      -∗ (∃ f, slotRPts (F := F) (pr c 2) c f)
      -∗ (∀ a : BitVec 32, ow c (sumL (fR 1 c) [3, 4, 5, 6] (O₂ c)) -∗ cred (tallyAt (dCell 0 (sc 1) c) () N) -∗ cred (tallyAt (dCell 0 (sc 2) c) () N) -∗ Q a)
      -∗ wp frame (wpE (defs₀ (F := F)) 𝒱₀ (c : Thread nD τ) none) Set.univ (k0_part7 (F := F) xM (Memref.isWhole_whole _) wM (Memref.isWhole_whole _) iM (Memref.isWhole_whole _) eM (Memref.isWhole_whole _) oM (Memref.isWhole_whole _) sM (Memref.isWhole_whole _) rM (Memref.isWhole_whole _) dM (Memref.isWhole_whole _) gM (Memref.isWhole_whole _) cc0_scratch4 cc0_scratch5 cc0_scratch6 cc0_scratch7 c v2) Q) := by
  rw [k0_part7_eq_skeleton]; unfold k0_part7_skel
  simp only [semSignalWord, semWaitWord, Prog.lift, Prog.bind_op, Prog.bind_ret, Prog.pure_eq_ret, wp_deviceId]
  iintro #HR HO Ht1 Hb1 Hd1 Ht2 Hb2 Hd2 HQ
  ihave HO := (ow_cons c (fR 1 c) 1 [2, 3, 4, 5, 6] (O₂ c)) $$ HO
  iapply (step_send1 sb rd K c 1 _ (dev9_eq c) _ (chunk_congr (off3_eq c 1) _ _) _ (slotR_congr (k0_off2_eq c) _ _) _ _
    (sem4_eq (sc 1) rfl _) (sem5_eq c (k0_off1_eq c) _) (sumL (fR 1 c) [2, 3, 4, 5, 6] (O₂ c))) $$ HR HO Ht1 Hb1 Hd1
  iintro HO Hc1
  ihave HO := (ow_cons c (fR 1 c) 2 [3, 4, 5, 6] (O₂ c)) $$ HO
  iapply (step_send1 sb rd K c 2 _ (dev10_eq c) _ (chunk_congr (off3_eq c 2) _ _) _ (slotR_congr (k0_off2_eq c) _ _) _ _
    (sem4_eq (sc 2) rfl _) (sem5_eq c (k0_off1_eq c) _) (sumL (fR 1 c) [3, 4, 5, 6] (O₂ c))) $$ HR HO Ht2 Hb2 Hd2
  iintro HO Hc2
  rw [wp_ret]; imodintro
  iapply HQ $$ HO Hc1 Hc2

/-- Two more. -/
theorem part8 {Q : (Σ' (v278 : BitVec 32), BitVec 32) → sProp 𝕄} (v2 : BitVec 32) (a : BitVec 32) :
    records sb rd K ⊢ iprop(ow c (sumL (fR 1 c) [3, 4, 5, 6] (O₂ c))
      -∗ send1Res c 3
      -∗ chunkPts c (pr c 3) (sb c)
      -∗ (∃ f, slotRPts (F := F) (pr c 3) c f)
      -∗ send1Res c 4
      -∗ chunkPts c (pr c 4) (sb c)
      -∗ (∃ f, slotRPts (F := F) (pr c 4) c f)
      -∗ (∀ a : BitVec 32, ∀ b : BitVec 32, ow c (sumL (fR 1 c) [5, 6] (O₂ c)) -∗ cred (tallyAt (dCell 0 (sc 3) c) () N) -∗ cred (tallyAt (dCell 0 (sc 4) c) () N) -∗ Q ⟨a, b⟩)
      -∗ wp frame (wpE (defs₀ (F := F)) 𝒱₀ (c : Thread nD τ) none) Set.univ (k0_part8 (F := F) xM (Memref.isWhole_whole _) wM (Memref.isWhole_whole _) iM (Memref.isWhole_whole _) eM (Memref.isWhole_whole _) oM (Memref.isWhole_whole _) sM (Memref.isWhole_whole _) rM (Memref.isWhole_whole _) dM (Memref.isWhole_whole _) gM (Memref.isWhole_whole _) cc0_scratch4 cc0_scratch5 cc0_scratch6 cc0_scratch7 c v2 a) Q) := by
  rw [k0_part8_eq_skeleton]; unfold k0_part8_skel
  simp only [semSignalWord, semWaitWord, Prog.lift, Prog.bind_op, Prog.bind_ret, Prog.pure_eq_ret, wp_deviceId]
  iintro #HR HO Ht3 Hb3 Hd3 Ht4 Hb4 Hd4 HQ
  ihave HO := (ow_cons c (fR 1 c) 3 [4, 5, 6] (O₂ c)) $$ HO
  iapply (step_send1 sb rd K c 3 _ (dev11_eq c) _ (chunk_congr (off3_eq c 3) _ _) _ (slotR_congr (k0_off2_eq c) _ _) _ _
    (sem4_eq (sc 3) rfl _) (sem5_eq c (k0_off1_eq c) _) (sumL (fR 1 c) [4, 5, 6] (O₂ c))) $$ HR HO Ht3 Hb3 Hd3
  iintro HO Hc3
  ihave HO := (ow_cons c (fR 1 c) 4 [5, 6] (O₂ c)) $$ HO
  iapply (step_send1 sb rd K c 4 _ (dev12_eq c) _ (chunk_congr (off3_eq c 4) _ _) _ (slotR_congr (k0_off2_eq c) _ _) _ _
    (sem4_eq (sc 4) rfl _) (sem5_eq c (k0_off1_eq c) _) (sumL (fR 1 c) [5, 6] (O₂ c))) $$ HR HO Ht4 Hb4 Hd4
  iintro HO Hc4
  rw [wp_ret]; imodintro
  iapply HQ $$ HO Hc3 Hc4

/-- One more. -/
theorem part9 {Q : PUnit → sProp 𝕄} (v2 : BitVec 32) (a : BitVec 32) (b : BitVec 32) :
    records sb rd K ⊢ iprop(ow c (sumL (fR 1 c) [5, 6] (O₂ c))
      -∗ send1Res c 5
      -∗ chunkPts c (pr c 5) (sb c)
      -∗ (∃ f, slotRPts (F := F) (pr c 5) c f)
      -∗ (ow c (sumL (fR 1 c) [6] (O₂ c)) -∗ cred (tallyAt (dCell 0 (sc 5) c) () N) -∗ Q ⟨⟩)
      -∗ wp frame (wpE (defs₀ (F := F)) 𝒱₀ (c : Thread nD τ) none) Set.univ (k0_part9 (F := F) xM (Memref.isWhole_whole _) wM (Memref.isWhole_whole _) iM (Memref.isWhole_whole _) eM (Memref.isWhole_whole _) oM (Memref.isWhole_whole _) sM (Memref.isWhole_whole _) rM (Memref.isWhole_whole _) dM (Memref.isWhole_whole _) gM (Memref.isWhole_whole _) cc0_scratch4 cc0_scratch5 cc0_scratch6 cc0_scratch7 c v2 a b) Q) := by
  rw [k0_part9_eq_skeleton]; unfold k0_part9_skel
  simp only [semSignalWord, semWaitWord, Prog.lift, Prog.bind_op, Prog.bind_ret, Prog.pure_eq_ret, wp_deviceId]
  iintro #HR HO Ht5 Hb5 Hd5 HQ
  ihave HO := (ow_cons c (fR 1 c) 5 [6] (O₂ c)) $$ HO
  iapply (step_send1 sb rd K c 5 _ (dev13_eq c) _ (chunk_congr (off3_eq c 5) _ _) _ (slotR_congr (k0_off2_eq c) _ _) _ _
    (sem4_eq (sc 5) rfl _) (sem5_eq c (k0_off1_eq c) _) (sumL (fR 1 c) [6] (O₂ c))) $$ HR HO Ht5 Hb5 Hd5
  iintro HO Hc5
  rw [wp_ret]; imodintro
  iapply HQ $$ HO Hc5

/-- The last chunk departs; the device's own rows are read, and the first arrival added. -/
theorem part10 {Q : (Σ' (v345 : FVec F S32x256 .f32) (v348 : BitVec 32) (v349 : BitVec 32), BitVec 32) → sProp 𝕄} (v2 : BitVec 32) (f : (cc0_stg4_0 : Ref sig .tc).ty.Contents (Elt F)) :
    records sb rd K ⊢ iprop(levAts L lv
      -∗ ow c (sumL (fR 1 c) [6] (O₂ c))
      -∗ send1Res c 6
      -∗ chunkPts c (pr c 6) (sb c)
      -∗ (∃ f, slotRPts (F := F) (pr c 6) c f)
      -∗ stgPts c cc0_stg4_0 f
      -∗ in1 c 0
      -∗ (∀ a : BitVec 32, ∀ b : BitVec 32, ow c (O₂ c) -∗ cred (tallyAt (dCell 0 (sc 6) c) () N) -∗ stgPts c cc0_stg4_0 f -∗ done1 c 0 -∗ Q ⟨k0_pay13 (ldO c f) (ch sb c 0), a, b, 0#32⟩)
      -∗ wp frame (wpE (defs₀ (F := F)) 𝒱₀ (c : Thread nD τ) none) Set.univ (k0_part10 (F := F) xM (Memref.isWhole_whole _) wM (Memref.isWhole_whole _) iM (Memref.isWhole_whole _) eM (Memref.isWhole_whole _) oM (Memref.isWhole_whole _) sM (Memref.isWhole_whole _) rM (Memref.isWhole_whole _) dM (Memref.isWhole_whole _) gM (Memref.isWhole_whole _) cc0_scratch4 cc0_scratch5 cc0_scratch6 cc0_scratch7 c v2) Q) := by
  rw [k0_part10_eq_skeleton]; unfold k0_part10_skel
  simp only [semSignalWord, semWaitWord, Prog.lift, Prog.bind_op, Prog.bind_ret, Prog.pure_eq_ret, wp_deviceId]
  iintro #HR #Hlev HO Ht6 Hb6 Hd6 Hout Hi0 HQ
  ihave HO := (ow_cons c (fR 1 c) 6 [] (O₂ c)) $$ HO
  iapply (step_send1 sb rd K c 6 _ (dev14_eq c) _ (chunk_congr (off3_eq c 6) _ _) _ (slotR_congr (k0_off2_eq c) _ _) _ _
    (sem4_eq (sc 6) rfl _) (sem5_eq c (k0_off1_eq c) _) (sumL (fR 1 c) [] (O₂ c))) $$ HR HO Ht6 Hb6 Hd6
  iintro HO Hc6
  ihave HO := (ow_nil c (fR 1 c) (O₂ c)) $$ HO
  iapply (step_ldO c c f (k0_off4_eq c) _) $$ Hout; iintro Hout
  iapply (step_recv1 sb rd K c 0 _ (sem5_eq (pr c 0) (off5_eq c 0) _) (credN_R (k0_off6 c 1#32) _) (off7_eq c 0) _) $$ HR Hlev HO Hi0
  iintro HO Hn0
  rw [wp_ret]; imodintro
  iapply HQ $$ HO Hc6 Hout Hn0

/-- The second arrival. -/
theorem part11 {Q : (Σ' (v369 : FVec F S32x256 .f32), BitVec 32) → sProp 𝕄} (v2 : BitVec 32) (s : FVec F S32x256 .f32) (a b e : BitVec 32) :
    records sb rd K ⊢ iprop(levAts L lv
      -∗ ow c (O₂ c)
      -∗ in1 c 1
      -∗ (∀ a : BitVec 32, ow c (O₂ c) -∗ done1 c 1 -∗ Q ⟨k0_pay14 s (ch sb c 1), a⟩)
      -∗ wp frame (wpE (defs₀ (F := F)) 𝒱₀ (c : Thread nD τ) none) Set.univ (k0_part11 (F := F) xM (Memref.isWhole_whole _) wM (Memref.isWhole_whole _) iM (Memref.isWhole_whole _) eM (Memref.isWhole_whole _) oM (Memref.isWhole_whole _) sM (Memref.isWhole_whole _) rM (Memref.isWhole_whole _) dM (Memref.isWhole_whole _) gM (Memref.isWhole_whole _) cc0_scratch4 cc0_scratch5 cc0_scratch6 cc0_scratch7 c v2 s a b e) Q) := by
  rw [k0_part11_eq_skeleton]; unfold k0_part11_skel
  simp only [semSignalWord, semWaitWord, Prog.lift, Prog.bind_op, Prog.bind_ret, Prog.pure_eq_ret, wp_deviceId]
  iintro #HR #Hlev HO Hi1 HQ
  iapply (step_recv1 sb rd K c 1 _ (sem5_eq (pr c 1) (off5_eq c 1) _) (credN_R (k0_off6 c 2#32) _) (off7_eq c 1) _) $$ HR Hlev HO Hi1
  iintro HO Hn1
  rw [wp_ret]; imodintro
  iapply HQ $$ HO Hn1

/-- The third and fourth. -/
theorem part12 {Q : (Σ' (v417 : FVec F S32x256 .f32) (v418 : BitVec 32) (c8_i32_261 : BitVec 32) (v419 : BitVec 1), BitVec 32) → sProp 𝕄} (v2 : BitVec 32) (s : FVec F S32x256 .f32) (a : BitVec 32) :
    records sb rd K ⊢ iprop(levAts L lv
      -∗ ow c (O₂ c)
      -∗ in1 c 2
      -∗ in1 c 3
      -∗ (∀ a : BitVec 32, ∀ b : BitVec 1, ow c (O₂ c) -∗ done1 c 2 -∗ done1 c 3 -∗ Q ⟨k0_pay15 s (ch sb c 2) (ch sb c 3), a, 8#32, b, 1#32⟩)
      -∗ wp frame (wpE (defs₀ (F := F)) 𝒱₀ (c : Thread nD τ) none) Set.univ (k0_part12 (F := F) xM (Memref.isWhole_whole _) wM (Memref.isWhole_whole _) iM (Memref.isWhole_whole _) eM (Memref.isWhole_whole _) oM (Memref.isWhole_whole _) sM (Memref.isWhole_whole _) rM (Memref.isWhole_whole _) dM (Memref.isWhole_whole _) gM (Memref.isWhole_whole _) cc0_scratch4 cc0_scratch5 cc0_scratch6 cc0_scratch7 c v2 s a) Q) := by
  rw [k0_part12_eq_skeleton]; unfold k0_part12_skel
  simp only [semSignalWord, semWaitWord, Prog.lift, Prog.bind_op, Prog.bind_ret, Prog.pure_eq_ret, wp_deviceId]
  iintro #HR #Hlev HO Hi2 Hi3 HQ
  iapply (step_recv1 sb rd K c 2 _ (sem5_eq (pr c 2) (off5_eq c 2) _) (credN_R (k0_off6 c 3#32) _) (off7_eq c 2) _) $$ HR Hlev HO Hi2
  iintro HO Hn2
  iapply (step_recv1 sb rd K c 3 _ (sem5_eq (pr c 3) (off5_eq c 3) _) (credN_R (k0_off6 c 4#32) _) (off7_eq c 3) _) $$ HR Hlev HO Hi3
  iintro HO Hn3
  rw [wp_ret]; imodintro
  iapply HQ $$ HO Hn2 Hn3

/-- The fifth. -/
theorem part13 {Q : (Σ' (v441 : FVec F S32x256 .f32), BitVec 32) → sProp 𝕄} (v2 : BitVec 32) (s : FVec F S32x256 .f32) (a b : BitVec 32) (e : BitVec 1) (g : BitVec 32) :
    records sb rd K ⊢ iprop(levAts L lv
      -∗ ow c (O₂ c)
      -∗ in1 c 4
      -∗ (∀ a : BitVec 32, ow c (O₂ c) -∗ done1 c 4 -∗ Q ⟨k0_pay16 s (ch sb c 4), a⟩)
      -∗ wp frame (wpE (defs₀ (F := F)) 𝒱₀ (c : Thread nD τ) none) Set.univ (k0_part13 (F := F) xM (Memref.isWhole_whole _) wM (Memref.isWhole_whole _) iM (Memref.isWhole_whole _) eM (Memref.isWhole_whole _) oM (Memref.isWhole_whole _) sM (Memref.isWhole_whole _) rM (Memref.isWhole_whole _) dM (Memref.isWhole_whole _) gM (Memref.isWhole_whole _) cc0_scratch4 cc0_scratch5 cc0_scratch6 cc0_scratch7 c v2 s a b e g) Q) := by
  rw [k0_part13_eq_skeleton]; unfold k0_part13_skel
  simp only [semSignalWord, semWaitWord, Prog.lift, Prog.bind_op, Prog.bind_ret, Prog.pure_eq_ret, wp_deviceId]
  iintro #HR #Hlev HO Hi4 HQ
  iapply (step_recv1 sb rd K c 4 _ (sem5_eq (pr c 4) (off5_eq c 4) _) (credN_R (k0_off6 c 5#32) _) (off7_eq c 4) _) $$ HR Hlev HO Hi4
  iintro HO Hn4
  rw [wp_ret]; imodintro
  iapply HQ $$ HO Hn4

/-- The last two. -/
theorem part14 {Q : (Σ' (v489 : FVec F S32x256 .f32), FVec F S32x256 .bf16) → sProp 𝕄} (v2 : BitVec 32) (s : FVec F S32x256 .f32) (a : BitVec 32) :
    records sb rd K ⊢ iprop(levAts L lv
      -∗ ow c (O₂ c)
      -∗ in1 c 5
      -∗ in1 c 6
      -∗ (ow c (O₂ c) -∗ done1 c 5 -∗ done1 c 6 -∗ Q ⟨k0_pay17 s (ch sb c 5) (ch sb c 6), k0_pay18 s (ch sb c 5) (ch sb c 6)⟩)
      -∗ wp frame (wpE (defs₀ (F := F)) 𝒱₀ (c : Thread nD τ) none) Set.univ (k0_part14 (F := F) xM (Memref.isWhole_whole _) wM (Memref.isWhole_whole _) iM (Memref.isWhole_whole _) eM (Memref.isWhole_whole _) oM (Memref.isWhole_whole _) sM (Memref.isWhole_whole _) rM (Memref.isWhole_whole _) dM (Memref.isWhole_whole _) gM (Memref.isWhole_whole _) cc0_scratch4 cc0_scratch5 cc0_scratch6 cc0_scratch7 c v2 s a) Q) := by
  rw [k0_part14_eq_skeleton]; unfold k0_part14_skel
  simp only [semSignalWord, semWaitWord, Prog.lift, Prog.bind_op, Prog.bind_ret, Prog.pure_eq_ret, wp_deviceId]
  iintro #HR #Hlev HO Hi5 Hi6 HQ
  iapply (step_recv1 sb rd K c 5 _ (sem5_eq (pr c 5) (off5_eq c 5) _) (credN_R (k0_off6 c 6#32) _) (off7_eq c 5) _) $$ HR Hlev HO Hi5
  iintro HO Hn5
  iapply (step_recv1 sb rd K c 6 _ (sem5_eq (pr c 6) (off5_eq c 6) _) (credN_R (k0_off6 c 7#32) _) (off7_eq c 6) _) $$ HR Hlev HO Hi6
  iintro HO Hn6
  rw [wp_ret]; imodintro
  iapply HQ $$ HO Hn5 Hn6

end Cert.Moe

end
-- ==== Proof.RunC.lean ====
/-
# The run of the body, third stretch

The reduced rows are stored and depart to everyone.
-/
module

public import proofs.«01_k».proof.Proof.Conts

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (sb : Dev nD → (cc0_scratch0 : Ref sig .tc).ty.Contents (Elt F)) (rd : Dev nD → (cc0_scratch2 : Ref sig .tc).ty.Contents (Elt F))

variable (sb : Dev nD → (cc0_scratch0 : Ref sig .tc).ty.Contents (Elt F)) (rd : Dev nD → (cc0_scratch2 : Ref sig .tc).ty.Contents (Elt F))
variable (K : Dev nD × Fin 33 → ℕ) (c : Dev nD)

/-- The reduced rows are stored, and depart to the first device. -/
theorem part15 {Q : BitVec 32 → sProp 𝕄} (v2 : BitVec 32) (s : FVec F S32x256 .f32) (t : FVec F S32x256 .bf16) (ht : k0_pay19 t = rd c) (f : (cc0_stg4_0 : Ref sig .tc).ty.Contents (Elt F)) (g : (cc0_scratch2 : Ref sig .tc).ty.Contents (Elt F)) :
    records sb rd K ⊢ iprop(ow c (sumL (fR 3 c) [0, 1, 2, 3, 4, 5, 6] 0)
      -∗ stgPts c cc0_scratch2 g
      -∗ stgPts c cc0_stg4_0 f
      -∗ send2Res c 0
      -∗ (∃ f, slotGPts (F := F) (pr c 0) c f)
      -∗ (∀ a : BitVec 32, ow c (sumL (fR 3 c) [1, 2, 3, 4, 5, 6] 0) -∗ stgPts c cc0_stg4_0 (outw c f s) -∗ cred (tallyAt (dCell 2 (sc 0) c) () N) -∗ redPts c 1 (rd c) -∗ redPts c 2 (rd c) -∗ redPts c 3 (rd c) -∗ redPts c 4 (rd c) -∗ redPts c 5 (rd c) -∗ redPts c 6 (rd c) -∗ Q a)
      -∗ wp frame (wpE (defs₀ (F := F)) 𝒱₀ (c : Thread nD τ) none) Set.univ (k0_part15 (F := F) xM (Memref.isWhole_whole _) wM (Memref.isWhole_whole _) iM (Memref.isWhole_whole _) eM (Memref.isWhole_whole _) oM (Memref.isWhole_whole _) sM (Memref.isWhole_whole _) rM (Memref.isWhole_whole _) dM (Memref.isWhole_whole _) gM (Memref.isWhole_whole _) cc0_scratch4 cc0_scratch5 cc0_scratch6 cc0_scratch7 c v2 s t) Q) := by
  rw [k0_part15_eq_skeleton]; unfold k0_part15_skel
  simp only [semSignalWord, semWaitWord, Prog.lift, Prog.bind_op, Prog.bind_ret, Prog.pure_eq_ret, wp_deviceId]
  iintro #HR HO Hd Hout Ht0 Hd0 HQ
  iapply (wp_load 𝒱₀ (c : Thread nD τ) none Set.univ (m := dM) (Finset.subset_univ _)) $$ Hd; iintro Hd
  iapply (wp_store 𝒱₀ (c : Thread nD τ) none Set.univ (m := dM) (r := Rect.unit (s := S32x256) ![0, 0] S32x256.size inb_S32x256_S32x256_0_0) (Mk := Finset.univ) (Finset.subset_univ _)) $$ Hd; iintro Hd
  rw [write_d, ht]
  ihave Hp := (BIBase.Entails.of_eq ((red_pieces c (rd c)).trans (fin7 _))) $$ Hd
  icases Hp with ⟨Hb0, Hb1, Hb2, Hb3, Hb4, Hb5, Hb6⟩
  iapply (step_ldO c c f (k0_off4_eq c) _) $$ Hout; iintro Hout
  iapply (step_stO c c f s (k0_off4_eq c) _) $$ Hout; iintro Hout
  ihave HO := (ow_cons c (fR 3 c) 0 [1, 2, 3, 4, 5, 6] 0) $$ HO
  iapply (step_send2 sb rd K c 0 _ (dev15_eq c) _ (slotG_congr (k0_off2_eq c) _ _) _ _
    (sem6_eq (sc 0) rfl _) (sem7_eq c (k0_off1_eq c) _) (sumL (fR 3 c) [1, 2, 3, 4, 5, 6] 0)) $$ HR HO Ht0 Hb0 Hd0
  iintro HO Hc0
  rw [wp_ret]; imodintro
  iapply HQ $$ HO Hout Hc0 Hb1 Hb2 Hb3 Hb4 Hb5 Hb6

/-- To two more. -/
theorem part16 {Q : (Σ' (v556 : BitVec 32) (v557 : BitVec 32) (v558 : BitVec 1) (v559 : BitVec 1), BitVec 1) → sProp 𝕄} (v2 : BitVec 32) (a : BitVec 32) :
    records sb rd K ⊢ iprop(ow c (sumL (fR 3 c) [1, 2, 3, 4, 5, 6] 0)
      -∗ send2Res c 1
      -∗ redPts c 1 (rd c)
      -∗ (∃ f, slotGPts (F := F) (pr c 1) c f)
      -∗ send2Res c 2
      -∗ redPts c 2 (rd c)
      -∗ (∃ f, slotGPts (F := F) (pr c 2) c f)
      -∗ (∀ a : BitVec 32, ∀ b : BitVec 32, ∀ e : BitVec 1, ∀ g : BitVec 1, ∀ h : BitVec 1, ow c (sumL (fR 3 c) [3, 4, 5, 6] 0) -∗ cred (tallyAt (dCell 2 (sc 1) c) () N) -∗ cred (tallyAt (dCell 2 (sc 2) c) () N) -∗ Q ⟨a, b, e, g, h⟩)
      -∗ wp frame (wpE (defs₀ (F := F)) 𝒱₀ (c : Thread nD τ) none) Set.univ (k0_part16 (F := F) xM (Memref.isWhole_whole _) wM (Memref.isWhole_whole _) iM (Memref.isWhole_whole _) eM (Memref.isWhole_whole _) oM (Memref.isWhole_whole _) sM (Memref.isWhole_whole _) rM (Memref.isWhole_whole _) dM (Memref.isWhole_whole _) gM (Memref.isWhole_whole _) cc0_scratch4 cc0_scratch5 cc0_scratch6 cc0_scratch7 c v2 a) Q) := by
  rw [k0_part16_eq_skeleton]; unfold k0_part16_skel
  simp only [semSignalWord, semWaitWord, Prog.lift, Prog.bind_op, Prog.bind_ret, Prog.pure_eq_ret, wp_deviceId]
  iintro #HR HO Ht1 Hb1 Hd1 Ht2 Hb2 Hd2 HQ
  ihave HO := (ow_cons c (fR 3 c) 1 [2, 3, 4, 5, 6] 0) $$ HO
  iapply (step_send2 sb rd K c 1 _ (dev16_eq c) _ (slotG_congr (k0_off2_eq c) _ _) _ _
    (sem6_eq (sc 1) rfl _) (sem7_eq c (k0_off1_eq c) _) (sumL (fR 3 c) [2, 3, 4, 5, 6] 0)) $$ HR HO Ht1 Hb1 Hd1
  iintro HO Hc1
  ihave HO := (ow_cons c (fR 3 c) 2 [3, 4, 5, 6] 0) $$ HO
  iapply (step_send2 sb rd K c 2 _ (dev17_eq c) _ (slotG_congr (k0_off2_eq c) _ _) _ _
    (sem6_eq (sc 2) rfl _) (sem7_eq c (k0_off1_eq c) _) (sumL (fR 3 c) [3, 4, 5, 6] 0)) $$ HR HO Ht2 Hb2 Hd2
  iintro HO Hc2
  rw [wp_ret]; imodintro
  iapply HQ $$ HO Hc1 Hc2

/-- To two more. -/
theorem part17 {Q : (Σ' (v594 : BitVec 32) (v595 : BitVec 32), BitVec 1) → sProp 𝕄} (v2 a b : BitVec 32) (e g h : BitVec 1) :
    records sb rd K ⊢ iprop(ow c (sumL (fR 3 c) [3, 4, 5, 6] 0)
      -∗ send2Res c 3
      -∗ redPts c 3 (rd c)
      -∗ (∃ f, slotGPts (F := F) (pr c 3) c f)
      -∗ send2Res c 4
      -∗ redPts c 4 (rd c)
      -∗ (∃ f, slotGPts (F := F) (pr c 4) c f)
      -∗ (∀ a : BitVec 32, ∀ b : BitVec 32, ∀ e : BitVec 1, ow c (sumL (fR 3 c) [5, 6] 0) -∗ cred (tallyAt (dCell 2 (sc 3) c) () N) -∗ cred (tallyAt (dCell 2 (sc 4) c) () N) -∗ Q ⟨a, b, e⟩)
      -∗ wp frame (wpE (defs₀ (F := F)) 𝒱₀ (c : Thread nD τ) none) Set.univ (k0_part17 (F := F) xM (Memref.isWhole_whole _) wM (Memref.isWhole_whole _) iM (Memref.isWhole_whole _) eM (Memref.isWhole_whole _) oM (Memref.isWhole_whole _) sM (Memref.isWhole_whole _) rM (Memref.isWhole_whole _) dM (Memref.isWhole_whole _) gM (Memref.isWhole_whole _) cc0_scratch4 cc0_scratch5 cc0_scratch6 cc0_scratch7 c v2 a b e g h) Q) := by
  rw [k0_part17_eq_skeleton]; unfold k0_part17_skel
  simp only [semSignalWord, semWaitWord, Prog.lift, Prog.bind_op, Prog.bind_ret, Prog.pure_eq_ret, wp_deviceId]
  iintro #HR HO Ht3 Hb3 Hd3 Ht4 Hb4 Hd4 HQ
  ihave HO := (ow_cons c (fR 3 c) 3 [4, 5, 6] 0) $$ HO
  iapply (step_send2 sb rd K c 3 _ (dev18_eq c) _ (slotG_congr (k0_off2_eq c) _ _) _ _
    (sem6_eq (sc 3) rfl _) (sem7_eq c (k0_off1_eq c) _) (sumL (fR 3 c) [4, 5, 6] 0)) $$ HR HO Ht3 Hb3 Hd3
  iintro HO Hc3
  ihave HO := (ow_cons c (fR 3 c) 4 [5, 6] 0) $$ HO
  iapply (step_send2 sb rd K c 4 _ (dev19_eq c) _ (slotG_congr (k0_off2_eq c) _ _) _ _
    (sem6_eq (sc 4) rfl _) (sem7_eq c (k0_off1_eq c) _) (sumL (fR 3 c) [5, 6] 0)) $$ HR HO Ht4 Hb4 Hd4
  iintro HO Hc4
  rw [wp_ret]; imodintro
  iapply HQ $$ HO Hc3 Hc4

/-- To the last two. -/
theorem part18 {Q : (Σ' (v630 : BitVec 32) (c8_i32_397 : BitVec 32) (v631 : BitVec 1), BitVec 32) → sProp 𝕄} (v2 a b : BitVec 32) (e : BitVec 1) :
    records sb rd K ⊢ iprop(ow c (sumL (fR 3 c) [5, 6] 0)
      -∗ send2Res c 5
      -∗ redPts c 5 (rd c)
      -∗ (∃ f, slotGPts (F := F) (pr c 5) c f)
      -∗ send2Res c 6
      -∗ redPts c 6 (rd c)
      -∗ (∃ f, slotGPts (F := F) (pr c 6) c f)
      -∗ (∀ a : BitVec 32, ∀ b : BitVec 1, ow c (sumL (fR 3 c) [] 0) -∗ cred (tallyAt (dCell 2 (sc 5) c) () N) -∗ cred (tallyAt (dCell 2 (sc 6) c) () N) -∗ Q ⟨a, 8#32, b, 1#32⟩)
      -∗ wp frame (wpE (defs₀ (F := F)) 𝒱₀ (c : Thread nD τ) none) Set.univ (k0_part18 (F := F) xM (Memref.isWhole_whole _) wM (Memref.isWhole_whole _) iM (Memref.isWhole_whole _) eM (Memref.isWhole_whole _) oM (Memref.isWhole_whole _) sM (Memref.isWhole_whole _) rM (Memref.isWhole_whole _) dM (Memref.isWhole_whole _) gM (Memref.isWhole_whole _) cc0_scratch4 cc0_scratch5 cc0_scratch6 cc0_scratch7 c v2 a b e) Q) := by
  rw [k0_part18_eq_skeleton]; unfold k0_part18_skel
  simp only [semSignalWord, semWaitWord, Prog.lift, Prog.bind_op, Prog.bind_ret, Prog.pure_eq_ret, wp_deviceId]
  iintro #HR HO Ht5 Hb5 Hd5 Ht6 Hb6 Hd6 HQ
  ihave HO := (ow_cons c (fR 3 c) 5 [6] 0) $$ HO
  iapply (step_send2 sb rd K c 5 _ (dev20_eq c) _ (slotG_congr (k0_off2_eq c) _ _) _ _
    (sem6_eq (sc 5) rfl _) (sem7_eq c (k0_off1_eq c) _) (sumL (fR 3 c) [6] 0)) $$ HR HO Ht5 Hb5 Hd5
  iintro HO Hc5
  ihave HO := (ow_cons c (fR 3 c) 6 [] 0) $$ HO
  iapply (step_send2 sb rd K c 6 _ (dev21_eq c) _ (slotG_congr (k0_off2_eq c) _ _) _ _
    (sem6_eq (sc 6) rfl _) (sem7_eq c (k0_off1_eq c) _) (sumL (fR 3 c) [] 0)) $$ HR HO Ht6 Hb6 Hd6
  iintro HO Hc6
  rw [wp_ret]; imodintro
  iapply HQ $$ HO Hc5 Hc6

end Cert.Moe

end
-- ==== Proof.RunD.lean ====
/-
# The run of the body, last stretch

The reduced rows of the others are put into the result; the departures are awaited.
-/
module

public import proofs.«01_k».proof.Proof.Conts

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (sb : Dev nD → (cc0_scratch0 : Ref sig .tc).ty.Contents (Elt F)) (rd : Dev nD → (cc0_scratch2 : Ref sig .tc).ty.Contents (Elt F))

variable (sb : Dev nD → (cc0_scratch0 : Ref sig .tc).ty.Contents (Elt F)) (rd : Dev nD → (cc0_scratch2 : Ref sig .tc).ty.Contents (Elt F))
variable (K : Dev nD × Fin 33 → ℕ) (c : Dev nD)

theorem credN_G (off : Fin 3 → Nat) (hi : ∀ a, off a + S1x32x256.size a ≤ S8x32x256.size a) :
    ((gM.slice (Rect.unit (s := S8x32x256) off S1x32x256.size hi) (fun _ => rfl)).squeeze S32x256 squeezes_S1x32x256_S32x256).view.dmaCredit = N := rfl
theorem credN_S (off : Fin 2 → Nat) (hi : ∀ a, off a + S32x256.size a ≤ S256x256.size a) :
    (sM.slice (Rect.unit (s := S256x256) off S32x256.size hi) (fun _ => rfl)).view.dmaCredit = N := rfl
theorem credN_D : (dM : Memref sig .tc .vmem S32x256 .bf16).view.dmaCredit = N := rfl

/-- The first rows of the second exchange are put into the result. -/
theorem part19 {Q : (Σ' (v666 : BitVec 32), BitVec 32) → sProp 𝕄} (v2 a b : BitVec 32) (e : BitVec 1) (g : BitVec 32) (f : (cc0_stg4_0 : Ref sig .tc).ty.Contents (Elt F)) :
    records sb rd K ⊢ iprop(levAts L lv
      -∗ ow c 0
      -∗ in3 c 0
      -∗ stgPts c cc0_stg4_0 f
      -∗ (∀ a : BitVec 32, ow c 0 -∗ done3 c 0 -∗ stgPts c cc0_stg4_0 (putv rd c 0 f) -∗ Q ⟨a, 1#32⟩)
      -∗ wp frame (wpE (defs₀ (F := F)) 𝒱₀ (c : Thread nD τ) none) Set.univ (k0_part19 (F := F) xM (Memref.isWhole_whole _) wM (Memref.isWhole_whole _) iM (Memref.isWhole_whole _) eM (Memref.isWhole_whole _) oM (Memref.isWhole_whole _) sM (Memref.isWhole_whole _) rM (Memref.isWhole_whole _) dM (Memref.isWhole_whole _) gM (Memref.isWhole_whole _) cc0_scratch4 cc0_scratch5 cc0_scratch6 cc0_scratch7 c v2 a b e g) Q) := by
  rw [k0_part19_eq_skeleton]; unfold k0_part19_skel
  simp only [semSignalWord, semWaitWord, Prog.lift, Prog.bind_op, Prog.bind_ret, Prog.pure_eq_ret, wp_deviceId]
  iintro #HR #Hlev HO Hi0 Hout HQ
  iapply (step_wait3 sb rd K c 0 _ (sem7_eq (pr c 0) (off5_eq c 0) _) (credN_G (k0_off6 c 1#32) _)) $$ HR Hlev HO Hi0
  iintro HO Hg0 Hz0
  iapply (step_put rd c 0 f _ rfl (off7_eq c 0) _ (off8_eq c 0) _) $$ Hg0 Hout Hz0
  iintro Hout Hn0
  rw [wp_ret]; imodintro
  iapply HQ $$ HO Hn0 Hout

/-- The second rows; the third arrive. -/
theorem part20 {Q : BitVec 32 → sProp 𝕄} (v2 a b : BitVec 32) (f : (cc0_stg4_0 : Ref sig .tc).ty.Contents (Elt F)) :
    records sb rd K ⊢ iprop(levAts L lv
      -∗ ow c 0
      -∗ in3 c 1
      -∗ in3 c 2
      -∗ stgPts c cc0_stg4_0 f
      -∗ (∀ a : BitVec 32, ow c 0 -∗ done3 c 1 -∗ gotG c (pr c 2) (rd (pr c 2)) -∗ semVal (dCell 3 (pr c 2) c) 0 -∗ stgPts c cc0_stg4_0 (putv rd c 1 f) -∗ Q a)
      -∗ wp frame (wpE (defs₀ (F := F)) 𝒱₀ (c : Thread nD τ) none) Set.univ (k0_part20 (F := F) xM (Memref.isWhole_whole _) wM (Memref.isWhole_whole _) iM (Memref.isWhole_whole _) eM (Memref.isWhole_whole _) oM (Memref.isWhole_whole _) sM (Memref.isWhole_whole _) rM (Memref.isWhole_whole _) dM (Memref.isWhole_whole _) gM (Memref.isWhole_whole _) cc0_scratch4 cc0_scratch5 cc0_scratch6 cc0_scratch7 c v2 a b) Q) := by
  rw [k0_part20_eq_skeleton]; unfold k0_part20_skel
  simp only [semSignalWord, semWaitWord, Prog.lift, Prog.bind_op, Prog.bind_ret, Prog.pure_eq_ret, wp_deviceId]
  iintro #HR #Hlev HO Hi1 Hi2 Hout HQ
  iapply (step_wait3 sb rd K c 1 _ (sem7_eq (pr c 1) (off5_eq c 1) _) (credN_G (k0_off6 c 2#32) _)) $$ HR Hlev HO Hi1
  iintro HO Hg1 Hz1
  iapply (step_put rd c 1 f _ rfl (off7_eq c 1) _ (off8_eq c 1) _) $$ Hg1 Hout Hz1
  iintro Hout Hn1
  iapply (step_wait3 sb rd K c 2 _ (sem7_eq (pr c 2) (off5_eq c 2) _) (credN_G (k0_off6 c 3#32) _)) $$ HR Hlev HO Hi2
  iintro HO Hg2 Hz2
  rw [wp_ret]; imodintro
  iapply HQ $$ HO Hn1 Hg2 Hz2 Hout

/-- The third and fourth. -/
theorem part21 {Q : BitVec 32 → sProp 𝕄} (v2 a : BitVec 32) (f : (cc0_stg4_0 : Ref sig .tc).ty.Contents (Elt F)) :
    records sb rd K ⊢ iprop(levAts L lv
      -∗ ow c 0
      -∗ gotG c (pr c 2) (rd (pr c 2))
      -∗ semVal (dCell 3 (pr c 2) c) 0
      -∗ in3 c 3
      -∗ stgPts c cc0_stg4_0 f
      -∗ (∀ a : BitVec 32, ow c 0 -∗ done3 c 2 -∗ done3 c 3 -∗ stgPts c cc0_stg4_0 (putv rd c 3 (putv rd c 2 f)) -∗ Q a)
      -∗ wp frame (wpE (defs₀ (F := F)) 𝒱₀ (c : Thread nD τ) none) Set.univ (k0_part21 (F := F) xM (Memref.isWhole_whole _) wM (Memref.isWhole_whole _) iM (Memref.isWhole_whole _) eM (Memref.isWhole_whole _) oM (Memref.isWhole_whole _) sM (Memref.isWhole_whole _) rM (Memref.isWhole_whole _) dM (Memref.isWhole_whole _) gM (Memref.isWhole_whole _) cc0_scratch4 cc0_scratch5 cc0_scratch6 cc0_scratch7 c v2 a) Q) := by
  rw [k0_part21_eq_skeleton]; unfold k0_part21_skel
  simp only [semSignalWord, semWaitWord, Prog.lift, Prog.bind_op, Prog.bind_ret, Prog.pure_eq_ret, wp_deviceId]
  iintro #HR #Hlev HO Hg2 Hz2 Hi3 Hout HQ
  iapply (step_put rd c 2 f _ rfl (off7_eq c 2) _ (off8_eq c 2) _) $$ Hg2 Hout Hz2
  iintro Hout Hn2
  iapply (step_wait3 sb rd K c 3 _ (sem7_eq (pr c 3) (off5_eq c 3) _) (credN_G (k0_off6 c 4#32) _)) $$ HR Hlev HO Hi3
  iintro HO Hg3 Hz3
  iapply (step_put rd c 3 (putv rd c 2 f) _ rfl (off7_eq c 3) _ (off8_eq c 3) _) $$ Hg3 Hout Hz3
  iintro Hout Hn3
  rw [wp_ret]; imodintro
  iapply HQ $$ HO Hn2 Hn3 Hout

/-- The fifth. -/
theorem part22 {Q : (Σ' (v762 : BitVec 32) (v763 : BitVec 32), BitVec 1) → sProp 𝕄} (v2 a : BitVec 32) (f : (cc0_stg4_0 : Ref sig .tc).ty.Contents (Elt F)) :
    records sb rd K ⊢ iprop(levAts L lv
      -∗ ow c 0
      -∗ in3 c 4
      -∗ stgPts c cc0_stg4_0 f
      -∗ (∀ a : BitVec 32, ∀ b : BitVec 32, ∀ e : BitVec 1, ow c 0 -∗ done3 c 4 -∗ stgPts c cc0_stg4_0 (putv rd c 4 f) -∗ Q ⟨a, b, e⟩)
      -∗ wp frame (wpE (defs₀ (F := F)) 𝒱₀ (c : Thread nD τ) none) Set.univ (k0_part22 (F := F) xM (Memref.isWhole_whole _) wM (Memref.isWhole_whole _) iM (Memref.isWhole_whole _) eM (Memref.isWhole_whole _) oM (Memref.isWhole_whole _) sM (Memref.isWhole_whole _) rM (Memref.isWhole_whole _) dM (Memref.isWhole_whole _) gM (Memref.isWhole_whole _) cc0_scratch4 cc0_scratch5 cc0_scratch6 cc0_scratch7 c v2 a) Q) := by
  rw [k0_part22_eq_skeleton]; unfold k0_part22_skel
  simp only [semSignalWord, semWaitWord, Prog.lift, Prog.bind_op, Prog.bind_ret, Prog.pure_eq_ret, wp_deviceId]
  iintro #HR #Hlev HO Hi4 Hout HQ
  iapply (step_wait3 sb rd K c 4 _ (sem7_eq (pr c 4) (off5_eq c 4) _) (credN_G (k0_off6 c 5#32) _)) $$ HR Hlev HO Hi4
  iintro HO Hg4 Hz4
  iapply (step_put rd c 4 f _ rfl (off7_eq c 4) _ (off8_eq c 4) _) $$ Hg4 Hout Hz4
  iintro Hout Hn4
  rw [wp_ret]; imodintro
  iapply HQ $$ HO Hn4 Hout

/-- The sixth. -/
theorem part23 {Q : BitVec 32 → sProp 𝕄} (v2 a b : BitVec 32) (e : BitVec 1) (f : (cc0_stg4_0 : Ref sig .tc).ty.Contents (Elt F)) :
    records sb rd K ⊢ iprop(levAts L lv
      -∗ ow c 0
      -∗ in3 c 5
      -∗ stgPts c cc0_stg4_0 f
      -∗ (∀ a : BitVec 32, ow c 0 -∗ done3 c 5 -∗ stgPts c cc0_stg4_0 (putv rd c 5 f) -∗ Q a)
      -∗ wp frame (wpE (defs₀ (F := F)) 𝒱₀ (c : Thread nD τ) none) Set.univ (k0_part23 (F := F) xM (Memref.isWhole_whole _) wM (Memref.isWhole_whole _) iM (Memref.isWhole_whole _) eM (Memref.isWhole_whole _) oM (Memref.isWhole_whole _) sM (Memref.isWhole_whole _) rM (Memref.isWhole_whole _) dM (Memref.isWhole_whole _) gM (Memref.isWhole_whole _) cc0_scratch4 cc0_scratch5 cc0_scratch6 cc0_scratch7 c v2 a b e) Q) := by
  rw [k0_part23_eq_skeleton]; unfold k0_part23_skel
  simp only [semSignalWord, semWaitWord, Prog.lift, Prog.bind_op, Prog.bind_ret, Prog.pure_eq_ret, wp_deviceId]
  iintro #HR #Hlev HO Hi5 Hout HQ
  iapply (step_wait3 sb rd K c 5 _ (sem7_eq (pr c 5) (off5_eq c 5) _) (credN_G (k0_off6 c 6#32) _)) $$ HR Hlev HO Hi5
  iintro HO Hg5 Hz5
  iapply (step_put rd c 5 f _ rfl (off7_eq c 5) _ (off8_eq c 5) _) $$ Hg5 Hout Hz5
  iintro Hout Hn5
  rw [wp_ret]; imodintro
  iapply HQ $$ HO Hn5 Hout

/-- The last; then the departures are awaited. -/
theorem part24 {Q : PUnit → sProp 𝕄} (a : BitVec 32) (f : (cc0_stg4_0 : Ref sig .tc).ty.Contents (Elt F)) :
    records sb rd K ⊢ iprop(levAts L lv
      -∗ ow c 0
      -∗ in3 c 6
      -∗ stgPts c cc0_stg4_0 f
      -∗ out0 c 0
      -∗ out0 c 1
      -∗ out0 c 2
      -∗ out0 c 3
      -∗ (ow c 0 -∗ done3 c 6 -∗ stgPts c cc0_stg4_0 (putv rd c 6 f) -∗ back0 sb c 0 -∗ back0 sb c 1 -∗ back0 sb c 2 -∗ back0 sb c 3 -∗ Q ⟨⟩)
      -∗ wp frame (wpE (defs₀ (F := F)) 𝒱₀ (c : Thread nD τ) none) Set.univ (k0_part24 (F := F) xM (Memref.isWhole_whole _) wM (Memref.isWhole_whole _) iM (Memref.isWhole_whole _) eM (Memref.isWhole_whole _) oM (Memref.isWhole_whole _) sM (Memref.isWhole_whole _) rM (Memref.isWhole_whole _) dM (Memref.isWhole_whole _) gM (Memref.isWhole_whole _) cc0_scratch4 cc0_scratch5 cc0_scratch6 cc0_scratch7 c a) Q) := by
  rw [k0_part24_eq_skeleton]; unfold k0_part24_skel
  simp only [semSignalWord, semWaitWord, Prog.lift, Prog.bind_op, Prog.bind_ret, Prog.pure_eq_ret, wp_deviceId]
  iintro #HR #Hlev HO Hi6 Hout Hw0 Hw1 Hw2 Hw3 HQ
  iapply (step_wait3 sb rd K c 6 _ (sem7_eq (pr c 6) (off5_eq c 6) _) (credN_G (k0_off6 c 7#32) _)) $$ HR Hlev HO Hi6
  iintro HO Hg6 Hz6
  iapply (step_put rd c 6 f _ rfl (off7_eq c 6) _ (off8_eq c 6) _) $$ Hg6 Hout Hz6
  iintro Hout Hn6
  iapply (step_wait0 sb rd K c 0 _ (sem4_eq (sc 0) rfl _) (credN_S (k0_off3 c 1#32) _)) $$ HR Hlev HO Hw0
  iintro HO Hk0
  iapply (step_wait0 sb rd K c 1 _ (sem4_eq (sc 1) rfl _) (credN_S (k0_off3 c 2#32) _)) $$ HR Hlev HO Hw1
  iintro HO Hk1
  iapply (step_wait0 sb rd K c 2 _ (sem4_eq (sc 2) rfl _) (credN_S (k0_off3 c 3#32) _)) $$ HR Hlev HO Hw2
  iintro HO Hk2
  iapply (step_wait0 sb rd K c 3 _ (sem4_eq (sc 3) rfl _) (credN_S (k0_off3 c 4#32) _)) $$ HR Hlev HO Hw3
  iintro HO Hk3
  rw [wp_ret]; imodintro
  iapply HQ $$ HO Hn6 Hout Hk0 Hk1 Hk2 Hk3

/-- More departures. -/
theorem part25 {Q : PUnit → sProp 𝕄}  :
    records sb rd K ⊢ iprop(levAts L lv
      -∗ ow c 0
      -∗ out0 c 4
      -∗ out0 c 5
      -∗ out0 c 6
      -∗ out2 c 0
      -∗ out2 c 1
      -∗ out2 c 2
      -∗ (ow c 0 -∗ back0 sb c 4 -∗ back0 sb c 5 -∗ back0 sb c 6 -∗ back2 rd c 0 -∗ back2 rd c 1 -∗ back2 rd c 2 -∗ Q ⟨⟩)
      -∗ wp frame (wpE (defs₀ (F := F)) 𝒱₀ (c : Thread nD τ) none) Set.univ (k0_part25 (F := F) xM (Memref.isWhole_whole _) wM (Memref.isWhole_whole _) iM (Memref.isWhole_whole _) eM (Memref.isWhole_whole _) oM (Memref.isWhole_whole _) sM (Memref.isWhole_whole _) rM (Memref.isWhole_whole _) dM (Memref.isWhole_whole _) gM (Memref.isWhole_whole _) cc0_scratch4 cc0_scratch5 cc0_scratch6 cc0_scratch7 c) Q) := by
  rw [k0_part25_eq_skeleton]; unfold k0_part25_skel
  simp only [semSignalWord, semWaitWord, Prog.lift, Prog.bind_op, Prog.bind_ret, Prog.pure_eq_ret, wp_deviceId]
  iintro #HR #Hlev HO Hw4 Hw5 Hw6 Hv0 Hv1 Hv2 HQ
  iapply (step_wait0 sb rd K c 4 _ (sem4_eq (sc 4) rfl _) (credN_S (k0_off3 c 5#32) _)) $$ HR Hlev HO Hw4
  iintro HO Hk4
  iapply (step_wait0 sb rd K c 5 _ (sem4_eq (sc 5) rfl _) (credN_S (k0_off3 c 6#32) _)) $$ HR Hlev HO Hw5
  iintro HO Hk5
  iapply (step_wait0 sb rd K c 6 _ (sem4_eq (sc 6) rfl _) (credN_S (k0_off3 c 7#32) _)) $$ HR Hlev HO Hw6
  iintro HO Hk6
  iapply (step_wait2 sb rd K c 0 _ (sem6_eq (sc 0) rfl _) credN_D) $$ HR Hlev HO Hv0
  iintro HO Hl0
  iapply (step_wait2 sb rd K c 1 _ (sem6_eq (sc 1) rfl _) credN_D) $$ HR Hlev HO Hv1
  iintro HO Hl1
  iapply (step_wait2 sb rd K c 2 _ (sem6_eq (sc 2) rfl _) credN_D) $$ HR Hlev HO Hv2
  iintro HO Hl2
  rw [wp_ret]; imodintro
  iapply HQ $$ HO Hk4 Hk5 Hk6 Hl0 Hl1 Hl2

end Cert.Moe

end
-- ==== Proof.Core.lean ====
/-
# The body

The stretches of the run put together, once, at a symbolic device.
-/
module

public import proofs.«01_k».proof.Proof.RunA
public import proofs.«01_k».proof.Proof.RunB
public import proofs.«01_k».proof.Proof.RunC
public import proofs.«01_k».proof.Proof.RunD

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (sb : Dev nD → (cc0_scratch0 : Ref sig .tc).ty.Contents (Elt F)) (rd : Dev nD → (cc0_scratch2 : Ref sig .tc).ty.Contents (Elt F))

variable (sb : Dev nD → (cc0_scratch0 : Ref sig .tc).ty.Contents (Elt F)) (rd : Dev nD → (cc0_scratch2 : Ref sig .tc).ty.Contents (Elt F))
variable (K : Dev nD × Fin 33 → ℕ) (c : Dev nD)

/-- The contents of the whole result on device `c`: its own reduced rows, and those of the seven others. -/
def finv (c : Dev nD) (x : (cc0_stg0_0 : Ref sig .tc).ty.Contents (Elt F)) (w : (cc0_stg1_0 : Ref sig .tc).ty.Contents (Elt F))
    (I : (cc0_stg2_0 : Ref sig .tc).ty.Contents (Elt F)) (E : (cc0_stg3_0 : Ref sig .tc).ty.Contents (Elt F)) : (cc0_stg4_0 : Ref sig .tc).ty.Contents (Elt F) :=
  putv rd c 6 (putv rd c 5 (putv rd c 4 (putv rd c 3 (putv rd c 2 (putv rd c 1 (putv rd c 0 (outw c (accv c x w I E) (ckv sb c (ldO c (accv c x w I E))))))))))

theorem ow_O₀ : ow (F := F) c (O₀ c) ⊢ ow c (sumL (fB c) [0, 1, 2, 3, 4, 5, 6] (O₁ c)) := BIBase.Entails.rfl
theorem ow_O₁ : ow (F := F) c (O₁ c) ⊢ ow c (sumL (fR 1 c) [0, 1, 2, 3, 4, 5, 6] (O₂ c)) := BIBase.Entails.rfl
theorem ow_O₂ : ow (F := F) c (O₂ c) ⊢ ow c (sumL (fR 3 c) [0, 1, 2, 3, 4, 5, 6] 0) := BIBase.Entails.rfl

/-- What the barrier brings: the slots given to device `c` for the two exchanges. -/
theorem bar_split : (bigSep Finset.univ fun d => barPay (F := F) c d)
    ⊢ iprop(((∃ f, slotRPts (F := F) (pr c 0) c f) ∗ (∃ f, slotRPts (F := F) (pr c 1) c f) ∗ (∃ f, slotRPts (F := F) (pr c 2) c f) ∗ (∃ f, slotRPts (F := F) (pr c 3) c f)
        ∗ (∃ f, slotRPts (F := F) (pr c 4) c f) ∗ (∃ f, slotRPts (F := F) (pr c 5) c f) ∗ (∃ f, slotRPts (F := F) (pr c 6) c f))
      ∗ ((∃ f, slotGPts (F := F) (pr c 0) c f) ∗ (∃ f, slotGPts (F := F) (pr c 1) c f) ∗ (∃ f, slotGPts (F := F) (pr c 2) c f) ∗ (∃ f, slotGPts (F := F) (pr c 3) c f)
        ∗ (∃ f, slotGPts (F := F) (pr c 4) c f) ∗ (∃ f, slotGPts (F := F) (pr c 5) c f) ∗ (∃ f, slotGPts (F := F) (pr c 6) c f))) := by
  unfold barPay
  rw [BI.bigSep_sep', fin7, fin7]
/-- The send buffer chunk by chunk. -/
theorem send_split {v : (cc0_scratch0 : Ref sig .tc).ty.Contents (Elt F)} (h : sb c = v) : stgPts c cc0_scratch0 v
    ⊢ iprop(chunkPts c c (sb c) ∗ chunkPts c (pr c 0) (sb c) ∗ chunkPts c (pr c 1) (sb c) ∗ chunkPts c (pr c 2) (sb c) ∗ chunkPts c (pr c 3) (sb c)
      ∗ chunkPts c (pr c 4) (sb c) ∗ chunkPts c (pr c 5) (sb c) ∗ chunkPts c (pr c 6) (sb c)) := by
  subst h
  exact BIBase.Entails.of_eq ((chunks_eq c (sb c)).trans (congrArg (fun P => iprop(chunkPts c c (sb c) ∗ P)) (fin7 _)))
theorem out0_intro (o : Fin 7) : cred (tallyAt (dCell 0 (sc o) c) () N) ⊢ iprop(atPos ER (dCell 0 (sc o) c) 0 ∅ 0 -∗ out0 (F := F) c o) := by
  unfold out0; iintro H1 H2; isplitl [H1]; · iexact H1
  iexact H2
theorem out2_intro (o : Fin 7) : cred (tallyAt (dCell 2 (sc o) c) () N) ⊢ iprop(atPos ER (dCell 2 (sc o) c) 0 ∅ 0 -∗ out2 (F := F) c o) := by
  unfold out2; iintro H1 H2; isplitl [H1]; · iexact H1
  iexact H2

set_option maxRecDepth 8000 in
set_option maxHeartbeats 8000000 in
/-- The whole body on device `c`: from its tokens, credits, positions and buffers to the finished result, everything else given back. -/
theorem core {Q : PUnit → sProp 𝕄} (x : (cc0_stg0_0 : Ref sig .tc).ty.Contents (Elt F)) (w : (cc0_stg1_0 : Ref sig .tc).ty.Contents (Elt F))
    (I : (cc0_stg2_0 : Ref sig .tc).ty.Contents (Elt F)) (E : (cc0_stg3_0 : Ref sig .tc).ty.Contents (Elt F)) (f : (cc0_stg4_0 : Ref sig .tc).ty.Contents (Elt F))
    (g : (cc0_scratch0 : Ref sig .tc).ty.Contents (Elt F)) (h : (cc0_scratch2 : Ref sig .tc).ty.Contents (Elt F))
    (hsb : sb c = sbv c x w I E) (hrd : rd c = redv sb c (ldO c (accv c x w I E))) :
    records sb rd K ⊢ iprop(levAts L lv
      -∗ ow c (O₀ c)
      -∗ (bigSep Finset.univ fun o : Fin 7 => sigRes (F := F) c o)
      -∗ (bigSep Finset.univ fun o : Fin 7 => send1Res (F := F) c o)
      -∗ (bigSep Finset.univ fun o : Fin 7 => send2Res (F := F) c o)
      -∗ cred (tallyAt (barCell c) () 7)
      -∗ atPos ER (barCell c) 0 ∅ 0
      -∗ (bigSep Finset.univ fun o : Fin 7 => in1 (F := F) c o)
      -∗ (bigSep Finset.univ fun o : Fin 7 => in3 (F := F) c o)
      -∗ (bigSep Finset.univ fun o : Fin 7 => atPos ER (dCell 0 (sc o) c) 0 ∅ 0)
      -∗ (bigSep Finset.univ fun o : Fin 7 => atPos ER (dCell 2 (sc o) c) 0 ∅ 0)
      -∗ stgPts c cc0_stg0_0 x
      -∗ stgPts c cc0_stg1_0 w
      -∗ stgPts c cc0_stg2_0 I
      -∗ stgPts c cc0_stg3_0 E
      -∗ stgPts c cc0_stg4_0 f
      -∗ stgPts c cc0_scratch0 g
      -∗ stgPts c cc0_scratch2 h
      -∗ (ow c 0 -∗ semVal (barCell c) 0 -∗ (bigSep Finset.univ fun o : Fin 7 => done1 (F := F) c o) -∗ (bigSep Finset.univ fun o : Fin 7 => done3 (F := F) c o) -∗ (bigSep Finset.univ fun o : Fin 7 => back0 sb c o) -∗ (bigSep Finset.univ fun o : Fin 7 => back2 rd c o) -∗ chunkPts c c (sb c)
        -∗ stgPts c cc0_stg0_0 x -∗ stgPts c cc0_stg1_0 w -∗ stgPts c cc0_stg2_0 I -∗ stgPts c cc0_stg3_0 E -∗ stgPts c cc0_stg4_0 (finv sb rd c x w I E) -∗ Q ⟨⟩)
      -∗ wp frame (wpE (defs₀ (F := F)) 𝒱₀ (c : Thread nD τ) none) Set.univ (cc0_body (F := F) xM (Memref.isWhole_whole _) wM (Memref.isWhole_whole _) iM (Memref.isWhole_whole _) eM (Memref.isWhole_whole _) oM (Memref.isWhole_whole _) sM (Memref.isWhole_whole _) rM (Memref.isWhole_whole _) dM (Memref.isWhole_whole _) gM (Memref.isWhole_whole _) cc0_scratch4 cc0_scratch5 cc0_scratch6 cc0_scratch7) Q) := by
  unfold sbv at hsb; unfold redv s5 accv at hrd; unfold finv ckv s5 accv
  rw [cc0_body_eq_skeleton]; unfold cc0_body_skel
  rw [wp_bind, k0_part26_eq_skeleton]; unfold k0_part26_skel
  simp only [wp_bind]
  rw [fin7, fin7, fin7, fin7, fin7, fin7, fin7, fin7, fin7, fin7, fin7]
  iintro #HR #Hlev HO ⟨Hs0, Hs1, Hs2, Hs3, Hs4, Hs5, Hs6⟩ ⟨Ht0, Ht1, Ht2, Ht3, Ht4, Ht5, Ht6⟩ ⟨Hu0, Hu1, Hu2, Hu3, Hu4, Hu5, Hu6⟩ Hcb Hab ⟨Hi0, Hi1, Hi2, Hi3, Hi4, Hi5, Hi6⟩ ⟨Hj0, Hj1, Hj2, Hj3, Hj4, Hj5, Hj6⟩ ⟨Ha0, Ha1, Ha2, Ha3, Ha4, Ha5, Ha6⟩ ⟨Hd0, Hd1, Hd2, Hd3, Hd4, Hd5, Hd6⟩ Hx Hw Hix He Hout Hg Hh HQ
  ihave HO := (ow_O₀ c) $$ HO
  iapply (part1 sb rd K c) $$ HR HO Hs0 Hs1
  iintro %_ %_ HO
  dsimp only
  iapply (part2 sb rd K c _ _ _ _) $$ HR HO Hs2 Hs3
  iintro %_ %_ %_ HO
  dsimp only
  iapply (part3 sb rd K c _ _ _ _ x) $$ HR HO Hs4 Hs5 Hs6 Hx
  iintro HO Hx
  iapply (part4 sb rd K c _ _ w I) $$ HR Hw Hix
  iintro Hw Hix
  dsimp only
  iapply (part5 sb rd K c _ _ _ _ _ _ _ _ _ _ E f g) $$ HR Hlev HO Hcb Hab He Hout Hg
  iintro %_ %_ HO Hbp Hzb He Hout Hg
  dsimp only
  ihave Hbp := (bar_split c) $$ Hbp
  icases Hbp with ⟨⟨Hp0, Hp1, Hp2, Hp3, Hp4, Hp5, Hp6⟩, ⟨Hq0, Hq1, Hq2, Hq3, Hq4, Hq5, Hq6⟩⟩
  ihave Hg := (send_split sb c hsb) $$ Hg
  icases Hg with ⟨Hcc, ⟨Hc0, Hc1, Hc2, Hc3, Hc4, Hc5, Hc6⟩⟩
  ihave HO := (ow_O₁ c) $$ HO
  iapply (part6 sb rd K c _ _ _) $$ HR HO Ht0 Hc0 Hp0
  iintro HO Hk0
  iapply (part7 sb rd K c _) $$ HR HO Ht1 Hc1 Hp1 Ht2 Hc2 Hp2
  iintro %_ HO Hk1 Hk2
  iapply (part8 sb rd K c _ _) $$ HR HO Ht3 Hc3 Hp3 Ht4 Hc4 Hp4
  iintro %_ %_ HO Hk3 Hk4
  dsimp only
  iapply (part9 sb rd K c _ _ _) $$ HR HO Ht5 Hc5 Hp5
  iintro HO Hk5
  iapply (part10 sb rd K c _ _) $$ HR Hlev HO Ht6 Hc6 Hp6 Hout Hi0
  iintro %_ %_ HO Hk6 Hout Hn0
  dsimp only
  iapply (part11 sb rd K c _ _ _ _ _) $$ HR Hlev HO Hi1
  iintro %_ HO Hn1
  dsimp only
  iapply (part12 sb rd K c _ _ _) $$ HR Hlev HO Hi2 Hi3
  iintro %_ %_ HO Hn2 Hn3
  dsimp only
  iapply (part13 sb rd K c _ _ _ _ _ _) $$ HR Hlev HO Hi4
  iintro %_ HO Hn4
  dsimp only
  iapply (part14 sb rd K c _ _ _) $$ HR Hlev HO Hi5 Hi6
  iintro HO Hn5 Hn6
  dsimp only
  ihave HO := (ow_O₂ c) $$ HO
  iapply (part15 sb rd K c _ _ _ hrd.symm _ h) $$ HR HO Hh Hout Hu0 Hq0
  iintro %_ HO Hout Hl0 Hr1 Hr2 Hr3 Hr4 Hr5 Hr6
  iapply (part16 sb rd K c _ _) $$ HR HO Hu1 Hr1 Hq1 Hu2 Hr2 Hq2
  iintro %_ %_ %_ %_ %_ HO Hl1 Hl2
  dsimp only
  iapply (part17 sb rd K c _ _ _ _ _ _) $$ HR HO Hu3 Hr3 Hq3 Hu4 Hr4 Hq4
  iintro %_ %_ %_ HO Hl3 Hl4
  dsimp only
  iapply (part18 sb rd K c _ _ _ _) $$ HR HO Hu5 Hr5 Hq5 Hu6 Hr6 Hq6
  iintro %_ %_ HO Hl5 Hl6
  dsimp only
  ihave HO := (ow_nil c (fR 3 c) 0) $$ HO
  iapply (part19 sb rd K c _ _ _ _ _) $$ HR Hlev HO Hj0 Hout
  iintro %_ HO Hm0 Hout
  dsimp only
  iapply (part20 sb rd K c _ _ _ _) $$ HR Hlev HO Hj1 Hj2 Hout
  iintro %_ HO Hm1 Hg2 Hz2 Hout
  iapply (part21 sb rd K c _ _ _) $$ HR Hlev HO Hg2 Hz2 Hj3 Hout
  iintro %_ HO Hm2 Hm3 Hout
  iapply (part22 sb rd K c _ _ _) $$ HR Hlev HO Hj4 Hout
  iintro %_ %_ %_ HO Hm4 Hout
  dsimp only
  iapply (part23 sb rd K c _ _ _ _ _) $$ HR Hlev HO Hj5 Hout
  iintro %_ HO Hm5 Hout
  ihave Ho0 := (out0_intro c 0) $$ Hk0 Ha0
  ihave Ho1 := (out0_intro c 1) $$ Hk1 Ha1
  ihave Ho2 := (out0_intro c 2) $$ Hk2 Ha2
  ihave Ho3 := (out0_intro c 3) $$ Hk3 Ha3
  ihave Ho4 := (out0_intro c 4) $$ Hk4 Ha4
  ihave Ho5 := (out0_intro c 5) $$ Hk5 Ha5
  ihave Ho6 := (out0_intro c 6) $$ Hk6 Ha6
  ihave Hv0 := (out2_intro c 0) $$ Hl0 Hd0
  ihave Hv1 := (out2_intro c 1) $$ Hl1 Hd1
  ihave Hv2 := (out2_intro c 2) $$ Hl2 Hd2
  ihave Hv3 := (out2_intro c 3) $$ Hl3 Hd3
  ihave Hv4 := (out2_intro c 4) $$ Hl4 Hd4
  ihave Hv5 := (out2_intro c 5) $$ Hl5 Hd5
  ihave Hv6 := (out2_intro c 6) $$ Hl6 Hd6
  iapply (part24 sb rd K c _ _) $$ HR Hlev HO Hj6 Hout Ho0 Ho1 Ho2 Ho3
  iintro HO Hm6 Hout Hb0 Hb1 Hb2 Hb3
  iapply (part25 sb rd K c) $$ HR Hlev HO Ho4 Ho5 Ho6 Hv0 Hv1 Hv2
  iintro HO Hb4 Hb5 Hb6 Hy0 Hy1 Hy2
  simp only [Prog.lift, Prog.bind_op, Prog.bind_ret, Prog.pure_eq_ret]
  iapply (step_wait2 sb rd K c 3 _ (sem6_eq (sc 3) rfl _) credN_D) $$ HR Hlev HO Hv3
  iintro HO Hy3
  rw [wp_ret]; imodintro
  iapply (step_wait2 sb rd K c 4 _ (sem6_eq (sc 4) rfl _) credN_D) $$ HR Hlev HO Hv4
  iintro HO Hy4
  rw [wp_ret]; imodintro
  iapply (step_wait2 sb rd K c 5 _ (sem6_eq (sc 5) rfl _) credN_D) $$ HR Hlev HO Hv5
  iintro HO Hy5
  rw [wp_ret]; imodintro
  rw [wp_ret]; imodintro
  iapply (step_wait2 sb rd K c 6 _ (sem6_eq (sc 6) rfl _) credN_D) $$ HR Hlev HO Hv6
  iintro HO Hy6
  rw [wp_ret]; imodintro
  rw [wp_ret]; imodintro
  iapply HQ $$ HO Hzb [Hn0 Hn1 Hn2 Hn3 Hn4 Hn5 Hn6] [Hm0 Hm1 Hm2 Hm3 Hm4 Hm5 Hm6] [Hb0 Hb1 Hb2 Hb3 Hb4 Hb5 Hb6] [Hy0 Hy1 Hy2 Hy3 Hy4 Hy5 Hy6] Hcc Hx Hw Hix He Hout
  · isplitl [Hn0]; · iexact Hn0
    isplitl [Hn1]; · iexact Hn1
    isplitl [Hn2]; · iexact Hn2
    isplitl [Hn3]; · iexact Hn3
    isplitl [Hn4]; · iexact Hn4
    isplitl [Hn5]; · iexact Hn5
    iexact Hn6
  · isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    iexact Hm6
  · isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    iexact Hb6
  · isplitl [Hy0]; · iexact Hy0
    isplitl [Hy1]; · iexact Hy1
    isplitl [Hy2]; · iexact Hy2
    isplitl [Hy3]; · iexact Hy3
    isplitl [Hy4]; · iexact Hy4
    isplitl [Hy5]; · iexact Hy5
    iexact Hy6

end Cert.Moe

end
-- ==== Proof.Data.lean ====
/-
# The pipeline's data and the body's obligation

The contents every buffer has at each moment, from the memory at launch; what a device starts the body with and ends it
with; and the body's obligation, from the run of the body.
-/
module

public import proofs.«01_k».proof.Proof.Core

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, counters at zero, any generator registers. -/
def s₀ : MemSt nD τ sig (Elt F) := ⟨m, fun _ => 0, ρ⟩

/-! ## Contents -/

/-- The four operands of device `c` as they lie in its staging buffers. -/
def xs (c : Dev nD) : (cc0_stg0_0 : Ref sig .tc).ty.Contents (Elt F) := (win0_0.blk (0 : Fin 1)).view.read (Elt F) (m ((c : Thread nD τ).loc main_arg0))
def ws (c : Dev nD) : (cc0_stg1_0 : Ref sig .tc).ty.Contents (Elt F) := (win0_1.blk (0 : Fin 1)).view.read (Elt F) (m ((c : Thread nD τ).loc main_arg1))
def is (c : Dev nD) : (cc0_stg2_0 : Ref sig .tc).ty.Contents (Elt F) := (win0_2.blk (0 : Fin 1)).view.read (Elt F) (m ((c : Thread nD τ).loc main_arg2))
def es (c : Dev nD) : (cc0_stg3_0 : Ref sig .tc).ty.Contents (Elt F) := (win0_3.blk (0 : Fin 1)).view.read (Elt F) (m ((c : Thread nD τ).loc main_arg3))

/-- Device `c`'s contribution, what it sends of it, what it keeps and sends of the reduced rows, and its final result. -/
def accA (c : Dev nD) : (cc0_stg4_0 : Ref sig .tc).ty.Contents (Elt F) := accv c (xs m c) (ws m c) (is m c) (es m c)
def sbA (c : Dev nD) : (cc0_scratch0 : Ref sig .tc).ty.Contents (Elt F) := sbv c (xs m c) (ws m c) (is m c) (es m c)
def rdA (c : Dev nD) : (cc0_scratch2 : Ref sig .tc).ty.Contents (Elt F) := redv (sbA m) c (ldO c (accA m c))
def outA (c : Dev nD) : (cc0_stg4_0 : Ref sig .tc).ty.Contents (Elt F) := finv (sbA m) (rdA m) c (xs m c) (ws m c) (is m c) (es m c)

/-! ## The cells of a device, enumerated -/

omit [FloatOps F] in
theorem fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem fin8_univ : (Finset.univ : Finset (Fin 8)) = insert 0 (Finset.univ.map ⟨sc, fun a b h => Fin.ext (by have := congrArg Fin.val h; simp only [sc] at this; omega)⟩) := by decide
omit [FloatOps F] in
theorem fin8 (Φ : Fin 8 → sProp 𝕄) : bigSep Finset.univ Φ = iprop(Φ 0 ∗ bigSep Finset.univ fun o : Fin 7 => Φ (sc o)) := by
  rw [fin8_univ, BI.bigSep_insert, BI.bigSep_map]
  · rfl
  · decide
theorem osem_fin : ∀ ki : Fin 4 × Fin 8, osem (finProdFinEquiv ki) = .dma (dsem ki.1 ki.2) := by decide +kernel
omit [FloatOps F] in
/-- A conjunction over the thirty-two transfer semaphores, by family and position. -/
theorem fin32 (c : Dev nD) (Φ : GSem nD τ sig → sProp 𝕄) :
    (bigSep Finset.univ fun k : Fin 32 => Φ ((c : Thread nD τ), osem k)) = bigSep Finset.univ fun k : Fin 4 => bigSep Finset.univ fun i : Fin 8 => Φ (dCell k i c) := by
  rw [BI.bigSep_univ_equiv (finProdFinEquiv : Fin 4 × Fin 8 ≃ Fin 32) (fun k : Fin 32 => Φ ((c : Thread nD τ), osem k)), ← BI.bigSep_univ_prod (fun ki : Fin 4 × Fin 8 => Φ (dCell ki.1 ki.2 c))]
  exact BI.bigSep_congr fun ki _ => by rw [osem_fin]
theorem fin33_univ : (Finset.univ : Finset (Fin 33)) = insert 0 ((Finset.univ : Finset (Fin 32)).map ⟨Fin.succ, Fin.succ_injective 32⟩) := by decide
theorem csem_succ : ∀ k : Fin 32, csem k.succ = osem k := by decide +kernel
omit [FloatOps F] in
/-- A conjunction over all thirty-three cells: the barrier first. -/
theorem fin33 (c : Dev nD) (Φ : GSem nD τ sig → sProp 𝕄) :
    (bigSep Finset.univ fun k : Fin 33 => Φ (kcell (c, k))) = iprop(Φ (barCell c) ∗ bigSep Finset.univ fun k : Fin 32 => Φ ((c : Thread nD τ), osem k)) := by
  rw [fin33_univ, BI.bigSep_insert, BI.bigSep_map]
  · exact congrArg (fun P => iprop(Φ (barCell c) ∗ P)) (BI.bigSep_congr fun k _ => by
      show Φ ((c : Thread nD τ), csem k.succ) = _; rw [csem_succ])
  · decide
/-- A conjunction over the transfer semaphores: in each family the unused one, then the seven used. -/
theorem cells_split (c : Dev nD) (Φ : GSem nD τ sig → sProp 𝕄) :
    (bigSep Finset.univ fun k : Fin 32 => Φ ((c : Thread nD τ), osem k))
      = iprop((Φ (dCell 0 0 c) ∗ bigSep Finset.univ fun o : Fin 7 => Φ (dCell 0 (sc o) c)) ∗ (Φ (dCell 1 c c) ∗ bigSep Finset.univ fun o : Fin 7 => Φ (dCell 1 (pr c o) c))
        ∗ (Φ (dCell 2 0 c) ∗ bigSep Finset.univ fun o : Fin 7 => Φ (dCell 2 (sc o) c)) ∗ (Φ (dCell 3 c c) ∗ bigSep Finset.univ fun o : Fin 7 => Φ (dCell 3 (pr c o) c))) := by
  rw [fin32, fin4, fin8 fun i => Φ (dCell 0 i c), fin8 fun i => Φ (dCell 2 i c)]
  rw [show (bigSep Finset.univ fun i : Fin 8 => Φ (dCell 1 i c)) = _ from dev_split c fun i => Φ (dCell 1 i c),
    show (bigSep Finset.univ fun i : Fin 8 => Φ (dCell 3 i c)) = _ from dev_split c fun i => Φ (dCell 3 i c)]

theorem unused0 (c : Dev nD) : ¬ used c 0 0 := by unfold used; rw [if_pos (by decide)]; exact fun h => h rfl
theorem unused2 (c : Dev nD) : ¬ used c 2 0 := by unfold used; rw [if_pos (by decide)]; exact fun h => h rfl
theorem unused1 (c : Dev nD) : ¬ used c 1 c := by unfold used; rw [if_neg (by decide)]; exact fun h => h rfl
theorem unused3 (c : Dev nD) : ¬ used c 3 c := by unfold used; rw [if_neg (by decide)]; exact fun h => h rfl

/-! ## What a device starts with and ends with -/

/-- The tokens of the duties device `c` pays, all devices' barriers and arrivals among them. -/
def payToks (c : Dev nD) : sProp 𝕄 :=
  iprop((bigSep Finset.univ fun o : Fin 7 => dutyTok ER (barCell (pr c o)) 0 (rv o)) ∗ (bigSep Finset.univ fun o : Fin 7 => send1Res (F := F) c o)
    ∗ bigSep Finset.univ fun o : Fin 7 => send2Res (F := F) c o)
def linear (c : Dev nD) : sProp 𝕄 := iprop((bigSep Finset.univ fun k : Fin 33 => atPos ER (kcell (c, k)) 0 ∅ 0) ∗ payToks (F := F) c)
def credits (c : Dev nD) : sProp 𝕄 :=
  iprop(cred (tallyAt (barCell c) () 7) ∗ (bigSep Finset.univ fun o : Fin 7 => cred (tallyAt (dCell 1 (pr c o) c) () N))
    ∗ bigSep Finset.univ fun o : Fin 7 => cred (tallyAt (dCell 3 (pr c o) c) () N))
def G' (c : Dev nD) : sProp 𝕄 := iprop(∃ K, records (sbA m) (rdA m) K ∗ linear (F := F) c)
def start (c : Dev nD) : sProp 𝕄 := iprop(G' m c ∗ credits (F := F) c ∗ levAts L lv)
/-- The four scratch buffers, at some contents. -/
def scr (c : Dev nD) : sProp 𝕄 :=
  iprop((∃ f, stgPts (F := F) c cc0_scratch0 f) ∗ (∃ f, stgPts (F := F) c cc0_scratch1 f) ∗ (∃ f, stgPts (F := F) c cc0_scratch2 f) ∗ (∃ f, stgPts (F := F) c cc0_scratch3 f))
def Φ₀ (c : Dev nD) : sProp 𝕄 := iprop(start m c ∗ scr (F := F) c)
def Φ₁ (c : Dev nD) : sProp 𝕄 :=
  iprop(scr (F := F) c ∗ (bigSep Finset.univ fun k : Fin 32 => semVal ((c : Thread nD τ), osem k) 0) ∗ semVal (barCell c) 0)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The pipeline's proof data of device `c`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m c
    | ⟨1, _⟩ => ws m c
    | ⟨2, _⟩ => is m c
    | ⟨3, _⟩ => es m c
    | ⟨4, _⟩ => outA m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The obligation -/

section Body

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))
def bodyPost (c : Dev nD) : sProp 𝕄 :=
  iprop(Φ₁ (F := F) c ∗ (dats m ρ 0 c).owesAt () t₀.succ ∗ stg c cc0_stg0_0 (xs m c) ∗ stg c cc0_stg1_0 (ws m c) ∗ stg c cc0_stg2_0 (is m c)
    ∗ stg c cc0_stg3_0 (es m c) ∗ stg c cc0_stg4_0 (outA m c))

/-- The signals' tokens with the slots they hand over. -/
theorem sig_intro (c : Dev nD) (f1 : Buf (Elt F) ((c : Thread nD τ).loc cc0_scratch1)) (f3 : Buf (Elt F) ((c : Thread nD τ).loc cc0_scratch3)) :
    (bigSep Finset.univ fun o : Fin 7 => dutyTok ER (barCell (pr c o)) 0 (rv o))
      ⊢ iprop((bigSep Finset.univ fun o : Fin 7 => slotRPts c (pr c o) f1) -∗ (bigSep Finset.univ fun o : Fin 7 => slotGPts c (pr c o) f3)
        -∗ bigSep Finset.univ fun o : Fin 7 => sigRes (F := F) c o) := by
  have h : iprop((bigSep Finset.univ fun o : Fin 7 => dutyTok ER (barCell (pr c o)) 0 (rv o))
      ∗ (bigSep Finset.univ fun o : Fin 7 => slotRPts c (pr c o) f1) ∗ (bigSep Finset.univ fun o : Fin 7 => slotGPts c (pr c o) f3))
        ⊢ (bigSep Finset.univ fun o : Fin 7 => sigRes (F := F) c o : sProp 𝕄) := by
    rw [← BI.bigSep_sep', ← BI.bigSep_sep']
    refine BI.bigSep_mono fun o _ => ?_
    unfold sigRes
    show iprop(dutyTok ER (barCell (pr c o)) 0 (rv o) ∗ slotRPts c (pr c o) f1 ∗ slotGPts c (pr c o) f3) ⊢ (_ : sProp 𝕄)
    iintro ⟨H1, H2, H3⟩
    isplitl [H1]; · iexact H1
    isplitl [H2]; · iexists f1; iexact H2
    iexists f3; iexact H3
  iintro H1 H2 H3
  iapply h
  isplitl [H1]; · iexact H1
  isplitl [H2]; · iexact H2
  iexact H3
theorem in1_intro (c : Dev nD) : (bigSep Finset.univ fun o : Fin 7 => cred (tallyAt (dCell 1 (pr c o) c) () N))
    ⊢ iprop((bigSep Finset.univ fun o : Fin 7 => atPos ER (dCell 1 (pr c o) c) 0 ∅ 0) -∗ bigSep Finset.univ fun o : Fin 7 => in1 (F := F) c o) := by
  unfold in1; rw [BI.bigSep_sep']; iintro H1 H2; isplitl [H1]; · iexact H1
  iexact H2
theorem in3_intro (c : Dev nD) : (bigSep Finset.univ fun o : Fin 7 => cred (tallyAt (dCell 3 (pr c o) c) () N))
    ⊢ iprop((bigSep Finset.univ fun o : Fin 7 => atPos ER (dCell 3 (pr c o) c) 0 ∅ 0) -∗ bigSep Finset.univ fun o : Fin 7 => in3 (F := F) c o) := by
  unfold in3; rw [BI.bigSep_sep']; iintro H1 H2; isplitl [H1]; · iexact H1
  iexact H2
theorem done1_elim (c : Dev nD) : (bigSep Finset.univ fun o : Fin 7 => done1 (F := F) c o)
    ⊢ iprop((bigSep Finset.univ fun o : Fin 7 => iprop(∃ f, slotRPts (F := F) c (pr c o) f)) ∗ bigSep Finset.univ fun o : Fin 7 => semVal (dCell 1 (pr c o) c) 0) := by
  unfold done1; rw [BI.bigSep_sep']
theorem done3_elim (c : Dev nD) : (bigSep Finset.univ fun o : Fin 7 => done3 (F := F) c o)
    ⊢ iprop((bigSep Finset.univ fun o : Fin 7 => iprop(∃ f, slotGPts (F := F) c (pr c o) f)) ∗ bigSep Finset.univ fun o : Fin 7 => semVal (dCell 3 (pr c o) c) 0) := by
  unfold done3; rw [BI.bigSep_sep']
theorem back0_elim (c : Dev nD) : (bigSep Finset.univ fun o : Fin 7 => back0 (sbA m) c o)
    ⊢ iprop((bigSep Finset.univ fun o : Fin 7 => chunkPts c (pr c o) (sbA m c)) ∗ bigSep Finset.univ fun o : Fin 7 => semVal (dCell 0 (sc o) c) 0) := by
  unfold back0; rw [BI.bigSep_sep']
theorem back2_elim (c : Dev nD) : (bigSep Finset.univ fun o : Fin 7 => back2 (rdA m) c o)
    ⊢ iprop((bigSep Finset.univ fun o : Fin 7 => redPts c o (rdA m c)) ∗ bigSep Finset.univ fun o : Fin 7 => semVal (dCell 2 (sc o) c) 0) := by
  unfold back2; rw [BI.bigSep_sep']
theorem send_join (c : Dev nD) (f : Buf (Elt F) ((c : Thread nD τ).loc cc0_scratch0)) :
    chunkPts c c f ⊢ iprop((bigSep Finset.univ fun o : Fin 7 => chunkPts c (pr c o) f) -∗ stgPts c cc0_scratch0 f) := by
  unfold stgPts; rw [chunks_eq]; iintro H1 H2; isplitl [H1]; · iexact H1
  iexact H2

/-- The body from what a device starts with, its staged operands and its debts, to what it ends with. -/
theorem sound_body (c : Dev nD) :
    bodyPre m ρ c ⊢ wp frame (wpE (defs₀ (F := F)) 𝒱₀ (c : Thread nD τ) none) Set.univ (cc0_body (F := F) xM (Memref.isWhole_whole _) wM (Memref.isWhole_whole _) iM (Memref.isWhole_whole _) eM (Memref.isWhole_whole _) oM (Memref.isWhole_whole _) sM (Memref.isWhole_whole _) rM (Memref.isWhole_whole _) dM (Memref.isWhole_whole _) gM (Memref.isWhole_whole _) cc0_scratch4 cc0_scratch5 cc0_scratch6 cc0_scratch7) (fun _ => bodyPost m ρ c) := by
  unfold bodyPre Φ₀ start G' linear payToks credits scr
  rw [fin33 c fun g => atPos ER g 0 ∅ 0, cells_split c fun g => atPos ER g 0 ∅ 0]
  iintro ⟨⟨⟨⟨%K, #HR, ⟨Hab, ⟨Hz0, Ha0⟩, ⟨Hz1, Ha1⟩, ⟨Hz2, Ha2⟩, Hz3, Ha3⟩, Htb, Ht1, Ht2⟩, ⟨Hcb, Hc1, Hc3⟩, #Hlev⟩, ⟨%g0, Hg0⟩, ⟨%g1, Hg1⟩, ⟨%g2, Hg2⟩, ⟨%g3, Hg3⟩⟩,
    Ho, ⟨%d0, %b0, %hb0, Hx⟩, ⟨%d1, %b1, %hb1, Hw⟩, ⟨%d2, %b2, %hb2, Hi⟩, ⟨%d3, %b3, %hb3, He⟩, ⟨%d4, %b4, %hb4, Hout⟩⟩
  have h0 : b0 = xs m c := by rw [hb0]; unfold Dat.before; rw [if_pos (fetch0_0 t₀)]; rfl
  have h1 : b1 = ws m c := by rw [hb1]; unfold Dat.before; rw [if_pos (fetch0_1 t₀)]; rfl
  have h2 : b2 = is m c := by rw [hb2]; unfold Dat.before; rw [if_pos (fetch0_2 t₀)]; rfl
  have h3 : b3 = es m c := by rw [hb3]; unfold Dat.before; rw [if_pos (fetch0_3 t₀)]; rfl
  subst h0; subst h1; subst h2; subst h3
  unfold Dat.owesAt Pipeline.owesWithin
  icases Ho with ⟨%W, %hW, HO⟩
  rw [show (dats m ρ 0 c).owed t₀.castSucc = O₀ c from rfl]
  ihave HO := (show owes (c : Thread nD τ) (O₀ c) W ⊢ ow (F := F) c (O₀ c) from by unfold ow; iintro H; iexists W; iexact H) $$ HO
  -- the four semaphores that are never used close at once
  imod (Rounds.cell_close ER (sched (sbA m) (rdA m)) (Set.mem_univ (K (c, kx 0 0))) (fun h => h) (R := 0) (fun r _ => duties_d_unused (sbA m) (rdA m) c (unused0 c) r)) $$ [Hz0] with Hz0
  · isplitr; · iapply (inv_d (sbA m) (rdA m) K c 0 0); iexact HR
    iexact Hz0
  imod (Rounds.cell_close ER (sched (sbA m) (rdA m)) (Set.mem_univ (K (c, kx 1 c))) (fun h => h) (R := 0) (fun r _ => duties_d_unused (sbA m) (rdA m) c (unused1 c) r)) $$ [Hz1] with Hz1
  · isplitr; · iapply (inv_d (sbA m) (rdA m) K c 1 c); iexact HR
    iexact Hz1
  imod (Rounds.cell_close ER (sched (sbA m) (rdA m)) (Set.mem_univ (K (c, kx 2 0))) (fun h => h) (R := 0) (fun r _ => duties_d_unused (sbA m) (rdA m) c (unused2 c) r)) $$ [Hz2] with Hz2
  · isplitr; · iapply (inv_d (sbA m) (rdA m) K c 2 0); iexact HR
    iexact Hz2
  imod (Rounds.cell_close ER (sched (sbA m) (rdA m)) (Set.mem_univ (K (c, kx 3 c))) (fun h => h) (R := 0) (fun r _ => duties_d_unused (sbA m) (rdA m) c (unused3 c) r)) $$ [Hz3] with Hz3
  · isplitr; · iapply (inv_d (sbA m) (rdA m) K c 3 c); iexact HR
    iexact Hz3
  -- the landing buffers, slot by slot, go with the signals
  ihave Hg1 := (BIBase.Entails.of_eq (slotsR_split c g1)) $$ Hg1
  icases Hg1 with ⟨Hr, Hrs⟩
  ihave Hg3 := (BIBase.Entails.of_eq (slotsG_split c g3)) $$ Hg3
  icases Hg3 with ⟨Hq, Hqs⟩
  ihave Hs := (sig_intro c g1 g3) $$ Htb Hrs Hqs
  ihave Hi1 := (in1_intro c) $$ Hc1 Ha1
  ihave Hi3 := (in3_intro c) $$ Hc3 Ha3
  iapply (core (sbA m) (rdA m) K c (xs m c) (ws m c) (is m c) (es m c) b4 g0 g2 rfl rfl) $$ HR Hlev HO Hs Ht1 Ht2 Hcb Hab Hi1 Hi3 Ha0 Ha2 Hx Hw Hi He Hout Hg0 Hg2
  iintro HO Hzb Hn1 Hn3 Hk0 Hk2 Hcc Hx Hw Hi He Hout
  ihave Hn1 := (done1_elim c) $$ Hn1
  icases Hn1 with ⟨Hrs, Hy1⟩
  ihave Hn3 := (done3_elim c) $$ Hn3
  icases Hn3 with ⟨Hqs, Hy3⟩
  ihave Hk0 := (back0_elim m c) $$ Hk0
  icases Hk0 with ⟨Hch, Hy0⟩
  ihave Hk2 := (back2_elim m c) $$ Hk2
  icases Hk2 with ⟨Hrd, Hy2⟩
  ihave Hg0 := (send_join c (sbA m c)) $$ Hcc Hch
  ihave Hg2 := (BIBase.Entails.of_eq (red_pieces c (rdA m c)).symm) $$ Hrd
  unfold bodyPost Φ₁ scr Dat.owesAt Pipeline.owesWithin ow
  rw [show (dats m ρ 0 c).owed t₀.succ = 0 from rfl, cells_split c fun g => semVal g 0]
  icases HO with ⟨%W', HO⟩
  isplitl [Hg0 Hg2 Hr Hrs Hq Hqs Hz0 Hz1 Hz2 Hz3 Hy0 Hy1 Hy2 Hy3 Hzb]
  · isplitl [Hg0 Hg2 Hr Hrs Hq Hqs]
    · isplitl [Hg0]; · iexists _; iexact Hg0
      isplitl [Hr Hrs]
      · iapply (slotsR_join c g1); isplitl [Hr]; · iexact Hr
        iexact Hrs
      isplitl [Hg2]; · iexists _; iexact Hg2
      iapply (slotsG_join c g3); isplitl [Hq]; · iexact Hq
      iexact Hqs
    isplitr [Hzb]
    · isplitl [Hz0 Hy0]; · isplitl [Hz0] <;> iassumption
      isplitl [Hz1 Hy1]; · isplitl [Hz1] <;> iassumption
      isplitl [Hz2 Hy2]; · isplitl [Hz2] <;> iassumption
      isplitl [Hz3] <;> iassumption
    iexact Hzb
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  isplitl [Hi]
  · iexists _; isplitr; · (ipureintro; rfl)
    iexact Hi
  isplitl [He]
  · iexists _; isplitr; · (ipureintro; rfl)
    iexact He
  iexists _; isplitr; · (ipureintro; rfl)
  iexact Hout

omit [FloatOps F] in
theorem bigSep_W (Φ : Fin cfg0.W → sProp 𝕄) : bigSep Finset.univ Φ = iprop(Φ (0 : Fin 5) ∗ Φ (1 : Fin 5) ∗ Φ (2 : Fin 5) ∗ Φ (3 : Fin 5) ∗ Φ (4 : Fin 5)) := bigSep_W0 Φ

set_option maxRecDepth 100000 in
set_option maxHeartbeats 2000000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ (c : Thread nD τ) none) Set.univ (cc0_body (F := F) xM (Memref.isWhole_whole _) wM (Memref.isWhole_whole _) iM (Memref.isWhole_whole _) eM (Memref.isWhole_whole _) oM (Memref.isWhole_whole _) sM (Memref.isWhole_whole _) rM (Memref.isWhole_whole _) dM (Memref.isWhole_whole _) gM (Memref.isWhole_whole _) cc0_scratch4 cc0_scratch5 cc0_scratch6 cc0_scratch7) (fun _ => bodyPost m ρ c)
  exact sound_body m ρ c

end Body

end Cert.Moe

end
-- ==== Proof.Launch.lean ====
/-
# The launch and the run

Who holds what at launch: each device its positions at its own cells and the tokens of the duties it pays; the credit it
holds against what the others owe its cells; and, from the body's obligation, the run of the whole program.
-/
module

public import proofs.«01_k».proof.Proof.Data
public import Idealize.ShloMosaic.Lib.Pipeline.CollectiveSegs

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 20000 in
theorem ownSemFacts : Pipeline.OwnSemFacts cfg0.spec osem := by decide +kernel

theorem share_eq (c : Dev nD) (w : Fin cfg0.W) : (dats m ρ 0 c).share w = fullShare := by unfold Dat.share; split <;> rfl

/-! ## Cells and tokens -/

theorem csem_injective : ∀ k k' : Fin 33, csem k = csem k' → k = k' := by decide +kernel
theorem kcell_injective : Function.Injective (kcell : Dev nD × Fin 33 → GSem nD τ sig) := by
  rintro ⟨c, k⟩ ⟨c', k'⟩ h
  have h1 : c = c' := congrArg (fun g : GSem nD τ sig => g.1.1) h
  subst h1
  rw [csem_injective k k' (congrArg Prod.snd h)]
def ringCells : Finset (GSem nD τ sig) := Finset.univ.map ⟨kcell, kcell_injective⟩

/-- The tokens by the device that pays the duty: its seven signals, and for each of the seven transfers of each exchange
    the departure and the arrival. -/
def tokOf (x : Dev nD × Fin 5 × Fin 7) : GSem nD τ sig × ℕ × Fin 7 := match x with
  | (c, 0, o) => (barCell (pr c o), 0, rv o) | (c, 1, o) => (dCell 0 (sc o) c, 0, 0) | (c, 2, o) => (dCell 1 c (pr c o), 0, 0)
  | (c, 3, o) => (dCell 2 (sc o) c, 0, 0) | (c, 4, o) => (dCell 3 c (pr c o), 0, 0)
/-- Which of the five sorts a cell is of. -/
def sort (g : GSem nD τ sig) : ℕ := match g.2 with | .reg _ => 0 | .dma q => (kindOf q).val + 1
theorem sort_d (k : Fin 4) (i : Fin 8) (c : Dev nD) : sort (dCell k i c) = k.val + 1 := by dsimp only [sort]; rw [kindOf_dsem]
theorem sort_tok (c : Dev nD) (j : Fin 5) (o : Fin 7) : sort (tokOf (c, j, o)).1 = j.val := by
  fin_cases j
  · rfl
  · exact sort_d 0 (sc o) c
  · exact sort_d 1 c (pr c o)
  · exact sort_d 2 (sc o) c
  · exact sort_d 3 c (pr c o)
theorem sc_inj {a b : Fin 7} (h : sc a = sc b) : a = b := Fin.ext (by have := congrArg Fin.val h; simp only [sc] at this; omega)
theorem bar_inj {a b : Dev nD} (h : barCell a = barCell b) : a = b := congrArg (fun g : GSem nD τ sig => g.1.1) h
theorem d_inj {k k' : Fin 4} {i i' : Fin 8} {a b : Dev nD} (h : dCell k i a = dCell k' i' b) : k = k' ∧ i = i' ∧ a = b := by
  have h1 : (SemLoc.dma (dsem k i) : SemLoc sig) = .dma (dsem k' i') := congrArg Prod.snd h
  have h2 := SemLoc.dma.inj h1
  refine ⟨?_, ?_, congrArg (fun g : GSem nD τ sig => g.1.1) h⟩
  · rw [← kindOf_dsem k i, h2, kindOf_dsem]
  · rw [← idxOf_dsem k i, h2, idxOf_dsem]
theorem rv_inj {a b : Fin 7} (h : rv a = rv b) : a = b := by rw [← rv_rv a, h, rv_rv]
theorem tokOf_injective : Function.Injective tokOf := by
  rintro ⟨c, j, o⟩ ⟨c', j', o'⟩ h
  have hj : j = j' := Fin.ext (by rw [← sort_tok c j o, h, sort_tok])
  subst hj
  have hc : (tokOf (c, j, o)).1 = (tokOf (c', j, o')).1 := congrArg Prod.fst h
  have hd : (tokOf (c, j, o)).2.2 = (tokOf (c', j, o')).2.2 := congrArg (fun x => x.2.2) h
  fin_cases j
  · have ho : o = o' := rv_inj hd
    subst ho
    have hp : pr c o = pr c' o := bar_inj hc
    have : c = c' := by rw [← pr_rv c o, hp, pr_rv]
    rw [this]
  · obtain ⟨-, h2, h3⟩ := d_inj (show dCell 0 (sc o) c = dCell 0 (sc o') c' from hc)
    rw [sc_inj h2, h3]
  · obtain ⟨-, h2, h3⟩ := d_inj (show dCell 1 c (pr c o) = dCell 1 c' (pr c' o') from hc)
    have h2 : c = c' := h2
    subst h2
    rw [pr_injective c h3]
  · obtain ⟨-, h2, h3⟩ := d_inj (show dCell 2 (sc o) c = dCell 2 (sc o') c' from hc)
    rw [sc_inj h2, h3]
  · obtain ⟨-, h2, h3⟩ := d_inj (show dCell 3 c (pr c o) = dCell 3 c' (pr c' o') from hc)
    have h2 : c = c' := h2
    subst h2
    rw [pr_injective c h3]
def ringToks : Finset (GSem nD τ sig × ℕ × Fin 7) := Finset.univ.map ⟨tokOf, tokOf_injective⟩

def u₀ : UU := (initOf (Pipeline.cells cfgs cellOf_inj) (Pipeline.launchToks cfgs cellOf_inj), initOf ringCells ringToks)

/-- What a device is dealt at launch. -/
def G (c : Dev nD) : sProp 𝕄 :=
  iprop((bigSep Finset.univ fun k : Fin 33 => roundState ER (sched (sbA m) (rdA m)) (kcell (c, k)) 0)
    ∗ (bigSep Finset.univ fun k : Fin 33 => iprop(atPos ER (kcell (c, k)) 0 ∅ 0 ∗ reached ER (kcell (c, k)) 0)) ∗ payToks (F := F) c)

omit [FloatOps F] in
theorem fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem toks_eq (c : Dev nD) :
    (bigSep Finset.univ fun jo : Fin 5 × Fin 7 => (dutyTok ER (tokOf (c, jo)).1 (tokOf (c, jo)).2.1 (tokOf (c, jo)).2.2 : sProp 𝕄)) ⊢ payToks (F := F) c := by
  rw [BI.bigSep_univ_prod, fin5]
  unfold payToks send1Res send2Res
  rw [BI.bigSep_sep', BI.bigSep_sep']
  iintro ⟨H0, H1, H2, H3, H4⟩
  isplitl [H0]; · iexact H0
  isplitl [H1 H2]
  · isplitl [H1]; · iexact H1
    iexact H2
  isplitl [H3]; · iexact H3
  iexact H4

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 33 => Φ (kcell (c, k)) := by
    unfold ringCells; rw [BI.bigSep_map, BI.bigSep_univ_prod]; rfl
  have hT : bigSep ringToks (fun x => (dutyTok ER x.1 x.2.1 x.2.2 : sProp 𝕄)) ⊢ bigSep Finset.univ fun c : Dev nD => payToks (F := F) c := by
    unfold ringToks; rw [BI.bigSep_map, BI.bigSep_univ_prod]
    exact BI.bigSep_mono fun c _ => toks_eq c
  iintro HX
  imod (Rounds.fund ER (sched (sbA m) (rdA m)) ringCells ringToks) $$ HX with ⟨Hst, Hr, Hat, Htok⟩
  imodintro
  ihave Hst' := (BIBase.Entails.of_eq (hX fun g => roundState ER (sched (sbA m) (rdA m)) g 0)) $$ Hst
  ihave Hat' := (BIBase.Entails.of_eq (hX fun g => atPos ER g 0 ∅ 0)) $$ Hat
  ihave Hr' := (BIBase.Entails.of_eq (hX fun g => reached ER g 0)) $$ Hr
  ihave Htok' := hT $$ Htok
  unfold G; simp only [BI.bigSep_sep']
  isplitl [Hst']; · iexact Hst'
  isplitl [Hat' Hr']
  · isplitl [Hat'] <;> iassumption
  iexact Htok'

omit [FloatOps F] in
/-- The barrier's semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 33 => semVal (kcell (c, k)) 0 : sProp 𝕄) := by
  rw [unscopedSems0_eq, fin33 c fun g => semVal g 0]
  unfold Pipeline.ownSems0
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched (sbA m) (rdA m)) κ (kcell (c, k))))
          ∗ (bigSep Finset.univ fun k => iprop(atPos ER (kcell (c, k)) 0 ∅ 0 ∗ reached ER (kcell (c, k)) 0)) ∗ payToks (F := F) c) := by
  unfold G
  iintro ⟨Hos, Hus, Hst, Hat, Htok⟩
  ihave Hv := (sems0_eq (F := F) c) $$ [Hos Hus]
  · isplitl [Hos] <;> iassumption
  imod (show iprop((bigSep Finset.univ fun k : Fin 33 => semVal (kcell (c, k)) 0) ∗ bigSep Finset.univ fun k : Fin 33 => roundState ER (sched (sbA m) (rdA m)) (kcell (c, k)) 0)
      ⊢ (|={Set.univ}=> bigSep Finset.univ fun k => iprop(∃ κ : ℕ, cellInv ER (sched (sbA m) (rdA m)) κ (kcell (c, k))) : sProp 𝕄) from by
        rw [← BI.bigSep_sep']
        exact (BI.bigSep_mono fun k _ => (Rounds.body_intro ER (sched (sbA m) (rdA m)) (kcell (c, k))).trans inv_alloc).trans (BI.bigSep_fupd _ _)) $$ [Hv Hst] with Hinv
  · isplitl [Hv] <;> iassumption
  imodintro
  isplitl [Hinv]; · iexact Hinv
  isplitl [Hat]; · iexact Hat
  iexact Htok

theorem ghost_intro (K : Dev nD × Fin 33 → ℕ) (c : Dev nD) : iprop(records (sbA m) (rdA m) K ∗ linear (F := F) c) ⊢ G' m c := by
  unfold G'
  iintro ⟨#HR, Hl⟩
  iexists K
  isplitr; · iexact HR
  iexact Hl

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← BI.bigSep_sep']; exact BI.bigSep_mono h)

theorem regroup :
    (bigSep Finset.univ fun c : Dev nD => iprop((bigSep Finset.univ fun k => iprop(∃ κ : ℕ, cellInv ER (sched (sbA m) (rdA m)) κ (kcell (c, k))))
          ∗ (bigSep Finset.univ fun k => iprop(atPos ER (kcell (c, k)) 0 ∅ 0 ∗ reached ER (kcell (c, k)) 0)) ∗ payToks (F := F) c) : sProp 𝕄)
      ⊢ bigSep Finset.univ (G' m) := by
  rw [BI.bigSep_sep', BI.bigSep_sep', ← BI.bigSep_univ_prod (fun ck : Dev nD × Fin 33 => iprop(∃ κ : ℕ, cellInv ER (sched (sbA m) (rdA m)) κ (kcell ck))),
    BI.bigSep_congr (s := Finset.univ) (fun (c : Dev nD) _ => BI.bigSep_sep' Finset.univ (fun k : Fin 33 => (atPos ER (kcell (c, k)) 0 ∅ 0 : sProp 𝕄)) (fun k => reached ER (kcell (c, k)) 0)),
    BI.bigSep_sep', ← BI.bigSep_univ_prod (fun ck : Dev nD × Fin 33 => (reached ER (kcell ck) 0 : sProp 𝕄))]
  iintro ⟨HI, ⟨Hat, #HR⟩, Htok⟩
  ihave HK := (BI.bigSep_exists_pi Finset.univ (fun (ck : Dev nD × Fin 33) (κ : ℕ) => (cellInv ER (sched (sbA m) (rdA m)) κ (kcell ck) : sProp 𝕄))) $$ HI
  icases HK with ⟨%K, #HI⟩
  iapply (bigSep_with_persistent (R := records (sbA m) (rdA m) K) fun c _ => ghost_intro m K c)
  isplitr
  · unfold records; isplitl; · iexact HI
    iexact HR
  · iapply ((BIBase.Entails.of_eq (BI.bigSep_sep' Finset.univ (fun c : Dev nD => bigSep Finset.univ fun k : Fin 33 => (atPos ER (kcell (c, k)) 0 ∅ 0 : sProp 𝕄)) (payToks (F := F))).symm).trans
      (BI.bigSep_mono fun c _ => show _ ⊢ linear (F := F) c from BIBase.Entails.of_eq (by unfold linear; rfl)))
    isplitl [Hat]; · iexact Hat
    iexact Htok

/-- All devices' semaphores at once become the cells' invariants, every device's share dealt. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((BI.bigSep_mono fun c _ => core_alloc m c).trans (BI.bigSep_fupd _ _)).trans (BI.fupd_mono (regroup m))

/-! ## The launch credit -/

theorem sumL_all (f : Fin 7 → CellTallies nD τ sig Unit) (z : CellTallies nD τ sig Unit) (g : GSem nD τ sig) (u : Unit) :
    sumL f all7 z g u = (∑ o : Fin 7, f o g u) + z g u := by
  simp only [all7, sumL, Pi.add_apply, Finsupp.add_apply, Fin.sum_univ_seven]
  omega

theorem owed_at (d : Dev nD) (g : GSem nD τ sig) :
    O₀ d g () = (∑ o : Fin 7, fB d o g ()) + (∑ o : Fin 7, fR 1 d o g ()) + ∑ o : Fin 7, fR 3 d o g () := by
  unfold O₀ O₁ O₂
  rw [sumL_all, sumL_all, sumL_all, Pi.zero_apply, Finsupp.zero_apply]; omega

theorem fB_bar (d c : Dev nD) (o : Fin 7) : fB d o (barCell c) () = if d = pr c (rv o) then 1 else 0 := by
  unfold fB
  rw [tallyAt_apply]
  by_cases h : d = pr c (rv o)
  · rw [if_pos h, if_pos]; rw [h, pr_rv']; exact ⟨rfl, rfl⟩
  · rw [if_neg h, if_neg]; rintro ⟨h1, -⟩; exact h (by rw [← pr_rv d o, bar_inj h1])
theorem fB_d (d c : Dev nD) (o : Fin 7) (k : Fin 4) (i : Fin 8) : fB d o (dCell k i c) () = 0 := by
  unfold fB
  rw [tallyAt_ne_cell (fun h => by cases congrArg Prod.snd h), Finsupp.zero_apply]
theorem fR_bar (k : Fin 4) (d c : Dev nD) (o : Fin 7) : fR k d o (barCell c) () = 0 := by
  unfold fR
  rw [tallyAt_ne_cell (fun h => by cases congrArg Prod.snd h), Finsupp.zero_apply]
theorem fR_ne {k k' : Fin 4} (h : k ≠ k') (d c : Dev nD) (o : Fin 7) (i : Fin 8) : fR k d o (dCell k' i c) () = 0 := by
  unfold fR
  rw [tallyAt_ne_cell (fun h' => h (by first | exact (d_inj h').1 | exact (d_inj h').1.symm)), Finsupp.zero_apply]
theorem fR_at (k : Fin 4) (d c : Dev nD) (o p : Fin 7) : fR k d p (dCell k (pr c o) c) () = if d = pr c o then (if p = rv o then N else 0) else 0 := by
  unfold fR
  rw [tallyAt_apply]
  by_cases h : d = pr c o
  · subst h
    rw [if_pos rfl]
    by_cases hp : p = rv o
    · subst hp; rw [if_pos rfl, if_pos]; rw [pr_rv]; exact ⟨rfl, rfl⟩
    · rw [if_neg hp, if_neg]; rintro ⟨h1, -⟩
      refine hp (pr_injective (pr c o) ?_)
      rw [pr_rv]
      first | exact (d_inj h1).2.2 | exact (d_inj h1).2.2.symm
  · rw [if_neg h, if_neg]; rintro ⟨h1, -⟩; exact h (by first | exact (d_inj h1).2.1 | exact (d_inj h1).2.1.symm)

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same]
  simp only [owed_at, fB_bar, fR_bar, Finset.sum_const_zero, Nat.add_zero]
  rw [Finset.sum_comm]
  simp only [Finset.sum_ite_eq', Finset.mem_univ, if_true, Finset.sum_const, Finset.card_univ, Fintype.card_fin, smul_eq_mul, Nat.mul_one]

theorem launch_1 (c : Dev nD) (o : Fin 7) :
    tallyOn (dCell 1 (pr c o) c) (launchCredit (Pipeline.owing O₀) 0 (dCell 1 (pr c o) c)) = (tallyAt (dCell 1 (pr c o) c) () N : CellTallies nD τ sig Unit) := by
  unfold tallyAt; refine congrArg _ (Finsupp.ext fun u => ?_); cases u
  rw [Pipeline.launchCredit_owing, Finsupp.single_eq_same]
  simp only [owed_at, fB_d, fR_at, fR_ne (show (3 : Fin 4) ≠ 1 by decide), Finset.sum_const_zero, Nat.add_zero, Nat.zero_add]
  rw [Finset.sum_comm]
  simp only [Finset.sum_ite_eq', Finset.mem_univ, if_true]

theorem launch_3 (c : Dev nD) (o : Fin 7) :
    tallyOn (dCell 3 (pr c o) c) (launchCredit (Pipeline.owing O₀) 0 (dCell 3 (pr c o) c)) = (tallyAt (dCell 3 (pr c o) c) () N : CellTallies nD τ sig Unit) := by
  unfold tallyAt; refine congrArg _ (Finsupp.ext fun u => ?_); cases u
  rw [Pipeline.launchCredit_owing, Finsupp.single_eq_same]
  simp only [owed_at, fB_d, fR_at, fR_ne (show (1 : Fin 4) ≠ 3 by decide), Finset.sum_const_zero, Nat.add_zero, Nat.zero_add]
  rw [Finset.sum_comm]
  simp only [Finset.sum_ite_eq', Finset.mem_univ, if_true]

/-- What the others owe a device's cells, as the credit the device holds. -/
theorem creds (c : Dev nD) : (Pipeline.launchCred O₀ c : sProp 𝕄) ⊢ credits (F := F) c := by
  unfold Pipeline.launchCred credits
  refine (BI.bigSep_subset (Finset.subset_univ (Finset.univ.map ⟨csem, fun a b h => csem_injective a b h⟩))).trans ?_
  rw [BI.bigSep_map]
  refine (BIBase.Entails.of_eq (fin33 c fun g => cred (tallyOn g (launchCredit (Pipeline.owing O₀) 0 g)))).trans ?_
  rw [cells_split c fun g => cred (tallyOn g (launchCredit (Pipeline.owing O₀) 0 g)), launch_bar,
    BI.bigSep_congr (s := Finset.univ) fun (o : Fin 7) _ => congrArg cred (launch_1 c o),
    BI.bigSep_congr (s := Finset.univ) fun (o : Fin 7) _ => congrArg cred (launch_3 c o)]
  iintro ⟨HB, -, ⟨-, H1⟩, -, -, H3⟩
  isplitl [HB]; · iexact HB
  isplitl [H1]; · iexact H1
  iexact H3

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ scr Pipeline.ownSems0
  iintro ⟨Hr, Hz, HzB⟩
  isplitl [HzB]; · iexact HzB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The arrays of device `c` after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, on eight devices: every weakly fair execution of the program terminates, and every
    final state has each device's arrays at the computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays after the run hold what they held. -/
theorem finalA_0 (c : Dev nD) : finalA m ρ c (0 : Fin 5) = m ((c : Thread nD τ).loc main_arg0) := (dats m ρ 0 c).arrAt_in (0 : Fin 5) rfl _
theorem finalA_1 (c : Dev nD) : finalA m ρ c (1 : Fin 5) = m ((c : Thread nD τ).loc main_arg1) := (dats m ρ 0 c).arrAt_in (1 : Fin 5) rfl _
theorem finalA_2 (c : Dev nD) : finalA m ρ c (2 : Fin 5) = m ((c : Thread nD τ).loc main_arg2) := (dats m ρ 0 c).arrAt_in (2 : Fin 5) rfl _
theorem finalA_3 (c : Dev nD) : finalA m ρ c (3 : Fin 5) = m ((c : Thread nD τ).loc main_arg3) := (dats m ρ 0 c).arrAt_in (3 : Fin 5) rfl _

end Cert.Moe

end
-- ==== Proof.Moves.lean ====
/-
# What the exchange leaves in the result

Over the extended reals a row of the result is, on every device, the sum over the devices of their contributions to it.
-/
module

public import proofs.«01_k».proof.Proof.Core
public import Idealize.ShloMosaic.Lib.Pointwise

@[expose] public section

noncomputable section

namespace Cert.Moe

open Cert.KernelIdeal Cert.KernelIdeal.Gen

open Idealize.ShloMosaic
open Idealize.ShloMosaic.TcCoe

/-- The row of the result at place `q` of device `d`'s 32 rows; the device a row belongs to; and its place there. -/
def row (d : Dev nD) (q : Fin 32) : Fin 256 := ⟨32 * d.val + q.val, by have := lt8 d; omega⟩
def dv (r : Fin 256) : Dev nD := ⟨r.val / 32, by show _ < 8; omega⟩
def pl (r : Fin 256) : Fin 32 := ⟨r.val % 32, Nat.mod_lt _ (by decide)⟩
theorem row_dv (r : Fin 256) : row (dv r) (pl r) = r := Fin.ext (by simp only [row, dv, pl]; omega)
theorem dv_row (d : Dev nD) (q : Fin 32) : dv (row d q) = d := Fin.ext (by simp only [row, dv]; omega)
theorem pl_row (d : Dev nD) (q : Fin 32) : pl (row d q) = q := Fin.ext (by simp only [row, pl]; omega)

/-- Where place `(q, j)` of 32 rows lies. -/
theorem emb_chunk (d : Dev nD) (q : Fin 32) (j : Fin 256) : (chunkRect d).emb (ix2 q j) = ix2 (row d q) j := by
  refine funext fun a => Fin.ext ?_
  match a with
  | ⟨0, _⟩ => show 32 * d.val + 1 * q.val = 32 * d.val + q.val; omega
  | ⟨1, _⟩ => show 0 + 1 * j.val = j.val; omega

theorem ldO_apply (d : Dev nD) (f : (cc0_stg4_0 : Ref sig .tc).ty.Contents (Elt Ideal)) (q : Fin 32) (j : Fin 256) :
    ldO d f (ix2 q j) = f (ix2 (row d q) j) := congrArg f (emb_chunk d q j)
theorem chunkOf_apply (sb : Dev nD → (cc0_scratch0 : Ref sig .tc).ty.Contents (Elt Ideal)) (d c : Dev nD) (q : Fin 32) (j : Fin 256) :
    chunkOf sb d c (ix2 q j) = sb d (ix2 (row c q) j) := congrArg (sb d) (emb_chunk c q j)

/-- The result with 32 rows replaced, at an index. -/
theorem outw_apply (d : Dev nD) (f : (cc0_stg4_0 : Ref sig .tc).ty.Contents (Elt Ideal)) (w : S32x256.Idx → Elt Ideal .f32) (r : Fin 256) (j : Fin 256) :
    outw d f w (ix2 r j) = if d = dv r then w (ix2 (pl r) j) else f (ix2 r j) := by
  unfold outw
  by_cases h : d = dv r
  · rw [if_pos h]
    have e : ix2 r j = (oM.access (chunkRect d)).emb (ix2 (pl r) j) := by
      refine Eq.symm ((emb_chunk d (pl r) j).trans ?_)
      rw [h, row_dv]
    rw [e]
    exact View.write_emb_of_mem _ _ (Finset.mem_univ _)
  · rw [if_neg h]
    refine View.write_of_not_mem _ _ _ (fun hm => h ?_)
    have hm' : (ix2 r j : S256x256.Idx) ∈ (chunkRect d).set := by
      have hs : ((oM : Memref sig .tc .vmem S256x256 .f32).access (chunkRect d)).set = (chunkRect d).set := View.set_slice_whole cc0_stg4_0 (chunkRect d)
      rw [← hs]; exact hm
    exact (Fin.ext (mem_chunk.mp hm')).symm

/-- A block cast to 32 rows and back is itself. -/
theorem cast_up (X : S32x256.Idx → Elt Ideal .bf16) : shapeCast S32x256 (up (F := Ideal) X) shapeCasts_S1x32x256_S32x256 = X :=
  funext fun i => congrArg X (Equiv.symm_apply_apply _ i)

theorem pay20_up (X : S32x256.Idx → Elt Ideal .bf16) (i : S32x256.Idx) : k0_pay20 (F := Ideal) (up (F := Ideal) X) i = X i := by
  unfold k0_pay20
  rw [cast_up]; rfl

variable (sb : Dev nD → (cc0_scratch0 : Ref sig .tc).ty.Contents (Elt Ideal))

/-- The own rows and the seven received. -/
theorem ckv_apply (c : Dev nD) (own : Vec Ideal S32x256 .f32) (q : Fin 32) (j : Fin 256) :
    ckv sb c own (ix2 q j) = own (ix2 q j) + ∑ o : Fin 7, (show EReal from sb (pr c o) (ix2 (row c q) j)) := by
  unfold ckv s5 ch k0_pay17 k0_pay16 k0_pay15 k0_pay14 k0_pay13
  iterate 7 rw [cast_up]
  rw [shapeCast_id, Fin.sum_univ_seven]
  simp only [← chunkOf_apply]
  have h : ∀ a b d e f g i k : EReal, a + b + d + e + f + g + i + k = a + (b + d + e + f + g + i + k) := fun a b d e f g i k => by simp only [add_assoc]
  exact h _ _ _ _ _ _ _ _

theorem redv_eq (c : Dev nD) (own : Vec Ideal S32x256 .f32) (i : S32x256.Idx) : (redv sb c own i : EReal) = ckv sb c own i := by
  unfold redv ckv k0_pay19 k0_pay18
  rw [shapeCast_id]; rfl

/-- A sum over the devices is the own term and the seven at the distances. -/
theorem sum_dev (c : Dev nD) (f : Dev nD → EReal) : ∑ d, f d = f c + ∑ o : Fin 7, f (pr c o) := by
  rw [dev_univ c, Finset.sum_insert, Finset.sum_map]
  · rfl
  · simp only [Finset.mem_map, Function.Embedding.coeFn_mk, Finset.mem_univ, true_and, not_exists]
    exact fun o => pr_ne c o

theorem dev_cases (c d : Dev nD) : d = c ∨ ∃ o, d = pr c o := by
  have h := Finset.mem_univ d
  rw [dev_univ c, Finset.mem_insert, Finset.mem_map] at h
  rcases h with h | ⟨o, -, h⟩
  · exact Or.inl h
  · exact Or.inr ⟨o, h.symm⟩

/-- The result on every device at an index: the sum of the devices' contributions. -/
theorem finv_apply (rd : Dev nD → (cc0_scratch2 : Ref sig .tc).ty.Contents (Elt Ideal)) (acc : Dev nD → S256x256.Idx → EReal)
    (x w I E : Dev nD → _) (hacc : ∀ d, accv (F := Ideal) d (x d) (w d) (I d) (E d) = acc d) (hsb : ∀ d, sb d = acc d)
    (hrd : ∀ d, rd d = redv sb d (ldO d (accv (F := Ideal) d (x d) (w d) (I d) (E d)))) (c : Dev nD) (r j : Fin 256) :
    finv sb rd c (x c) (w c) (I c) (E c) (ix2 r j) = ∑ d, acc d (ix2 r j) := by
  have hck : ∀ d (q : Fin 32), ckv sb d (ldO d (acc d)) (ix2 q j) = ∑ d', acc d' (ix2 (row d q) j) := by
    intro d q
    rw [ckv_apply, sum_dev d]
    simp only [hsb]
    exact congrArg (· + _) (ldO_apply d (acc d) q j)
  have hput : ∀ (o : Fin 7) (f : (cc0_stg4_0 : Ref sig .tc).ty.Contents (Elt Ideal)),
      putv rd c o f (ix2 r j) = if pr c o = dv r then ∑ d, acc d (ix2 r j) else f (ix2 r j) := by
    intro o f
    unfold putv
    rw [outw_apply, pay20_up, hrd, hacc]
    refine if_ctx_congr Iff.rfl (fun h => ?_) (fun _ => rfl)
    refine (redv_eq sb _ _ _).trans ((hck _ _).trans ?_)
    rw [h, row_dv]
  unfold finv
  rw [hacc]
  simp only [hput, outw_apply]
  rw [hck]
  rcases dev_cases c (dv r) with h | ⟨o, h⟩
  · simp only [pr_ne, if_false, h, if_true]
    rw [← h, row_dv]
  · fin_cases o <;> simp [h]

end Cert.Moe

end
-- ==== Proof.Out.lean ====
/-
# The kernel's result

The result array of a device, from its output window; the operands it reads, from its input windows; and the result over the extended
reals: the sum of every device's contribution.
-/
module

public import proofs.«01_k».proof.Proof.Launch
public import proofs.«01_k».proof.Proof.Moves

@[expose] public section

noncomputable section

namespace Cert.Moe

open Cert.KernelIdeal Cert.KernelIdeal.Gen

open Idealize.ShloMosaic

section
variable {F : FTy → Type} [FloatOps F] (m : (ℓ : Loc nD τ sig) → Buf (Elt F) ℓ) (ρ : Dev nD → PrngReg)

/-- Each input window's one block is the whole array. -/
theorem xs_eq (c : Dev nD) : xs m c = m ((c.tc : Thread nD τ).loc main_arg0) :=
  Memref.read_access_unit_zero (Elt F) main_arg0 (funext fun a => by fin_cases a <;> decide) (fun a => by fin_cases a <;> decide) _
theorem ws_eq (c : Dev nD) : ws m c = m ((c.tc : Thread nD τ).loc main_arg1) :=
  Memref.read_access_unit_zero (Elt F) main_arg1 (funext fun a => by fin_cases a <;> decide) (fun a => by fin_cases a <;> decide) _
theorem is_eq (c : Dev nD) : is m c = m ((c.tc : Thread nD τ).loc main_arg2) :=
  Memref.read_access_unit_zero (Elt F) main_arg2 (funext fun a => by fin_cases a <;> decide) (fun a => by fin_cases a <;> decide) _
theorem es_eq (c : Dev nD) : es m c = m ((c.tc : Thread nD τ).loc main_arg3) :=
  Memref.read_access_unit_zero (Elt F) main_arg3 (funext fun a => by fin_cases a <;> decide) (fun a => by fin_cases a <;> decide) _

attribute [local irreducible] outA in
/-- What the body leaves in the output window's staging buffer. -/
theorem after_4 (c : Dev nD) : (dats m ρ 0 c).after (4 : Fin 5) (0 : Fin 1) = outA m c := by
  unfold dats; rfl

/-- The output window's one block, read back, is the result; -/
theorem finalA_4_blk (c : Dev nD) : (win0_4.blk (0 : Fin 1)).view.read (Elt F) (finalA m ρ c (4 : Fin 5)) = outA m c := by
  unfold finalA
  rw [show cfg0.N = ((0 : Fin 1) : Fin cfg0.N).val + 1 from rfl, (dats m ρ 0 c).arrAt_succ (4 : Fin 5) (0 : Fin 1)]
  rw [show (cfg0.win (4 : Fin 5)).flush (0 : Fin 1) = true from flush0_4 (0 : Fin 1), if_pos rfl]
  rw [← after_4 m ρ c]
  refine (View.read_write_univ _ _).trans ?_
  show (cfg0.win (4 : Fin 5)).cut _ ((dats m ρ 0 c).after (4 : Fin 5) (0 : Fin 1)) = _
  generalize (dats m ρ 0 c).after (4 : Fin 5) (0 : Fin 1) = v
  rfl
/-- and the block is the whole array. -/
theorem finalA_4 (c : Dev nD) : finalA m ρ c (4 : Fin 5) = outA m c :=
  (Memref.read_access_unit_zero (Elt F) main_v1 (funext fun a => by fin_cases a <;> decide) (fun a => by fin_cases a <;> decide) _).symm.trans (finalA_4_blk m ρ c)
end

variable (m : (ℓ : Loc nD τ sig) → Buf (Elt Ideal) ℓ)

/-- Over the extended reals rounding is the identity: what a device sends is its contribution. -/
theorem sbA_eq (c : Dev nD) : sbA m c = accA m c := by
  unfold sbA accA sbv accv k0_pay12
  exact shapeCast_id _ _

/-- The result of a device at an index: the sum of every device's contribution there. -/
theorem outA_apply (c : Dev nD) (r j : Fin 256) : outA m c (ix2 r j) = ∑ d : Dev nD, (show EReal from accA m d (ix2 r j)) :=
  finv_apply (sbA m) (rdA m) (accA m) (xs m) (ws m) (is m) (es m) (fun _ => rfl) (sbA_eq m) (fun _ => rfl) c r j

end Cert.Moe

end
-- ==== Proof.Weights.lean ====
/-
# The routing weights

The router's scores, their softmax, and what the kernel's payloads are at an index, over the extended reals.
-/
module

public import proofs.«01_k».proof.Proof.Conts
public import Idealize.ShloMosaic.Lib.Pointwise
public import Idealize.ShloMosaic.Lib.WordCmp

@[expose] public section

noncomputable section

namespace Cert.Moe

open Cert.KernelIdeal Cert.KernelIdeal.Gen

open Idealize.ShloMosaic

variable (x : FVec Ideal S256x128 .f32) (w : FVec Ideal S128x16 .f32)

/-- The router's score of expert `e` for token `r`. -/
def score (r : Fin 256) (e : Fin 16) : EReal := ∑ k : Fin 128, x (ix2 r k) * w (ix2 k e)
/-- The greatest score of a token. -/
def top (r : Fin 256) : EReal := Finset.univ.fold max ⊥ fun e : Fin 16 => score x w r e
/-- The exponential of a score less the greatest. -/
def ex (r : Fin 256) (e : Fin 16) : EReal := Ideal.exp (score x w r e - top x w r)
/-- The softmax of a token's scores. -/
def prob (r : Fin 256) (e : Fin 16) : EReal := Ideal.div (ex x w r e) (∑ e', ex x w r e')

theorem negInf : Idealize.ShloMosaic.Ideal.ofBits .f32 0xFF800000#32 = ⊥ := by simp [Ideal.ofBits, Ideal.ieee]

theorem select_eq {n : Nat} {α : Type} (a b : BitVec n) (p q : α) : Scalar.select (IntOp.cmpi .eq a b) p q = if a = b then p else q := by
  rw [WordCmp.cmpi_eq_eq]
  by_cases h : a = b <;> simp [h, Scalar.select]

theorem pay1_eq : k0_pay1 (F := Ideal) x = x := by unfold k0_pay1; exact shapeCast_id _ _

/-- The kernel's softmax is it. -/
theorem pay2_apply (r : Fin 256) (e : Fin 16) : k0_pay2 (F := Ideal) x w (ix2 r e) = prob x w r e := by
  unfold prob ex top score
  pointwise [k0_pay2]
  rw [negInf]

/-- The probability of the expert numbered `n`, zero when there is none. -/
def pick (r : Fin 256) (n : BitVec 32) : EReal := ∑ e : Fin 16, if BitVec.ofNat 32 e.val = n then prob x w r e else 0

/-- The kernel picks each of the two by comparing expert numbers. -/
theorem pay5_apply (i : Vec Ideal S256x1 .i32) (r : Fin 256) :
    k0_pay5 (F := Ideal) x w i (ix2 r 0) = pick x w r (i (ix2 r 0)) := by
  unfold pick
  pointwise [k0_pay5, k0_pay3, pay2_apply, select_eq]
theorem pay6_apply (i : Vec Ideal S256x1 .i32) (r : Fin 256) :
    k0_pay6 (F := Ideal) x w i (ix2 r 0) = pick x w r (i (ix2 r 0)) := by
  unfold pick
  pointwise [k0_pay6, k0_pay4, pay2_apply, select_eq]
theorem pay7_apply (i i' : Vec Ideal S256x1 .i32) (r : Fin 256) :
    k0_pay7 (F := Ideal) x w i i' (ix2 r 0) = pick x w r (i (ix2 r 0)) + pick x w r (i' (ix2 r 0)) := by
  pointwise [k0_pay7, pay5_apply, pay6_apply]

/-- The weight of expert `n` for a token sent to experts `a` and `b`. -/
def wt (r : Fin 256) (a b n : BitVec 32) : EReal :=
  (if a = n then Ideal.div (pick x w r a) (pick x w r a + pick x w r b) else 0)
    + if b = n then Ideal.div (pick x w r b) (pick x w r a + pick x w r b) else 0

/-- The two columns of route indices and the two experts, as loaded. -/
theorem ldI0_apply (I : (cc0_stg2_0 : Ref sig .tc).ty.Contents (Elt Ideal)) (r : Fin 256) : ldI0 (F := Ideal) I (ix2 r 0) = I (ix2 r 0) := by
  refine congrArg I (funext fun a => Fin.ext ?_)
  match a with
  | ⟨0, _⟩ => show 0 + 1 * r.val = r.val; omega
  | ⟨1, _⟩ => rfl
theorem ldI1_apply (I : (cc0_stg2_0 : Ref sig .tc).ty.Contents (Elt Ideal)) (r : Fin 256) : ldI1 (F := Ideal) I (ix2 r 0) = I (ix2 r 1) := by
  refine congrArg I (funext fun a => Fin.ext ?_)
  match a with
  | ⟨0, _⟩ => show 0 + 1 * r.val = r.val; omega
  | ⟨1, _⟩ => rfl
theorem ldE0_apply (E : (cc0_stg3_0 : Ref sig .tc).ty.Contents (Elt Ideal)) (k : Fin 128) (j : Fin 256) : ldE0 (F := Ideal) E (ix3 0 k j) = E (ix3 0 k j) := by
  refine congrArg E (funext fun a => Fin.ext ?_)
  match a with
  | ⟨0, _⟩ => rfl
  | ⟨1, _⟩ => show 0 + 1 * k.val = k.val; omega
  | ⟨2, _⟩ => show 0 + 1 * j.val = j.val; omega
theorem ldE1_apply (E : (cc0_stg3_0 : Ref sig .tc).ty.Contents (Elt Ideal)) (k : Fin 128) (j : Fin 256) : ldE1 (F := Ideal) E (ix3 0 k j) = E (ix3 1 k j) := by
  refine congrArg E (funext fun a => Fin.ext ?_)
  match a with
  | ⟨0, _⟩ => rfl
  | ⟨1, _⟩ => show 0 + 1 * k.val = k.val; omega
  | ⟨2, _⟩ => show 0 + 1 * j.val = j.val; omega

/-- The numbers of a device's two experts, as the program computes them. -/
theorem num0 : ∀ c : Dev nD, Scalar.addi (Scalar.muli (v2w c) 2#32) 0#32 = BitVec.ofNat 32 (2 * c.val) := by decide +kernel
theorem num1 : ∀ c : Dev nD, Scalar.addi (Scalar.muli (v2w c) 2#32) 1#32 = BitVec.ofNat 32 (2 * c.val + 1) := by decide +kernel

/-- A device's contribution at an index: the token's features scaled by the weight of each of its two experts, times that expert's matrix. -/
theorem accv_apply (c : Dev nD) (I : (cc0_stg2_0 : Ref sig .tc).ty.Contents (Elt Ideal)) (E : (cc0_stg3_0 : Ref sig .tc).ty.Contents (Elt Ideal))
    (r : Fin 256) (j : Fin 256) :
    accv (F := Ideal) c x w I E (ix2 r j)
      = (∑ k : Fin 128, x (ix2 r k) * wt x w r (I (ix2 r 0)) (I (ix2 r 1)) (BitVec.ofNat 32 (2 * c.val)) * E (ix3 0 k j))
        + ∑ k : Fin 128, x (ix2 r k) * wt x w r (I (ix2 r 0)) (I (ix2 r 1)) (BitVec.ofNat 32 (2 * c.val + 1)) * E (ix3 1 k j) := by
  unfold accv wt
  rw [pay1_eq]
  pointwise [k0_pay11, k0_pay3, k0_pay4, k0_pay8, k0_pay9, k0_pay10, pay5_apply, pay6_apply, pay7_apply, select_eq, ldI0_apply, ldI1_apply, ldE0_apply, ldE1_apply]
  rw [num0, num1]

end Cert.Moe

end
-- ==== Proof.Refv.lean ====
/-
# The reference at an index

What the reference computes at a token and a column, when every route index is an expert's number.
-/
module

public import proofs.«01_k».proof.Proof.Weights
public import proofs.«01_k».proof.Proof.Gen.ReferenceIdeal.Run

@[expose] public section

noncomputable section

namespace Cert.Moe

open Cert.ReferenceIdeal Cert.ReferenceIdeal.Gen

open Idealize.ShloMosaic

variable (x : FVec Ideal S256x128 .f32) (w : FVec Ideal S128x16 .f32) (I : IVec S256x2 32) (E : FVec Ideal S16x128x256 .f32)

/-- The reference's softmax of the scores. -/
def rProbs : FVec Ideal S256x16 .f32 :=
  Host.divf (Host.exp (subf (Host.dotGeneral dot_S256x128_S128x16_S256x16_1_0_0_1_n_n none x w) (broadcastInDim S256x16 ![0, 1] bcast_S256x1_S256x16_0_1 (broadcastInDim S256x1 ![0] bcast_S256_S256x1_0 (Host.reduce FloatOps.maximumf (Host.dotGeneral dot_S256x128_S128x16_S256x16_1_0_0_1_n_n none x w) (constant S_ .f32 0xFF800000#32) reducesTo_S256x16_S256_d1 h_S_))))) (broadcastInDim S256x16 ![0, 1] bcast_S256x1_S256x16_0_1 (broadcastInDim S256x1 ![0] bcast_S256_S256x1_0 (Host.reduceAdd (Host.exp (subf (Host.dotGeneral dot_S256x128_S128x16_S256x16_1_0_0_1_n_n none x w) (broadcastInDim S256x16 ![0, 1] bcast_S256x1_S256x16_0_1 (broadcastInDim S256x1 ![0] bcast_S256_S256x1_0 (Host.reduce FloatOps.maximumf (Host.dotGeneral dot_S256x128_S128x16_S256x16_1_0_0_1_n_n none x w) (constant S_ .f32 0xFF800000#32) reducesTo_S256x16_S256_d1 h_S_))))) (constant S_ .f32 0x00000000#32) reducesTo_S256x16_S256_d1 h_S_)))
/-- The first choice of every token, as a column, and the second. -/
def rCol0 : IVec S256x1 32 := broadcastInDim S256x1 ![0] bcast_S256_S256x1_0 (shapeCast _ (extractStridedSlice S256x1 ![0, 0] I slices_S256x2_S256x1_0_0) shapeCasts_S256x1_S256)
def rCol1 : IVec S256x1 32 := broadcastInDim S256x1 ![0] bcast_S256_S256x1_0 (shapeCast _ (extractStridedSlice S256x1 ![0, 1] I slices_S256x2_S256x1_0_1) shapeCasts_S256x1_S256)
/-- A column with 16 added to what is negative, over three axes. -/
def rWrap (i : IVec S256x1 32) : IVec S256x1x1 32 :=
  shapeCast _ (select (cmpi .slt i (broadcastInDim S256x1 ![] bcast_S_S256x1 (constantI S_ 32 0#32))) (addi i (broadcastInDim S256x1 ![] bcast_S_S256x1 (constantI S_ 32 16#32))) i) shapeCasts_S256x1_S256x1x1
/-- The probabilities a column chooses. -/
def rTake (i : IVec S256x1 32) : FVec Ideal S256x1 .f32 :=
  Host.gather gather_S256x16_S256x1x1_S256x1_n_1_0_0_1_2_11 (rProbs x w) (rWrap i)
/-- Every token times the matrix a column chooses for it. -/
def rMul (i : IVec S256x1 32) : FVec Ideal S256x256 .f32 :=
  Host.dotGeneral dot_S256x128_S256x128x256_S256x256_1_1_n_2_0_0 none x (Host.gather gather_S16x128x256_S256x1_S256x128x256_12_0_n_n_0_1_1128256 E i)
/-- The reference. -/
def refv : FVec Ideal S256x256 .f32 :=
  addf (mulf (broadcastInDim S256x256 ![0, 1] bcast_S256x1_S256x256_0_1 (Host.divf (rTake x w (rCol0 I)) (addf (rTake x w (rCol0 I)) (rTake x w (rCol1 I))))) (rMul x E (rCol0 I)))
    (mulf (broadcastInDim S256x256 ![0, 1] bcast_S256x1_S256x256_0_1 (Host.divf (rTake x w (rCol1 I)) (addf (rTake x w (rCol0 I)) (rTake x w (rCol1 I))))) (rMul x E (rCol1 I)))

set_option maxRecDepth 8192 in
/-- What the reference's run leaves in its result is that. -/
theorem res_eq (m : (ℓ : Loc nD τ sig) → Buf (Elt Ideal) ℓ) (c : Dev nD) :
    Cert.ReferenceIdeal.Value.res_main_v29 m c = refv (m ((c.tc : Thread nD τ).loc main_arg0)) (m ((c.tc : Thread nD τ).loc main_arg1))
      (m ((c.tc : Thread nD τ).loc main_arg2)) (m ((c.tc : Thread nD τ).loc main_arg3)) := rfl

/-- The reference's softmax. -/
theorem rProbs_apply (r : Fin 256) (e : Fin 16) : rProbs x w (ix2 r e) = prob x w r e := by
  unfold prob ex top score
  pointwise [rProbs]
  rw [negInf]

theorem rCol0_apply (r : Fin 256) : rCol0 I (ix2 r 0) = I (ix2 r 0) := by
  pointwise [rCol0]
theorem rCol1_apply (r : Fin 256) : rCol1 I (ix2 r 0) = I (ix2 r 1) := by
  pointwise [rCol1]

/-- An index that is not negative is kept. -/
theorem rWrap_apply (i : IVec S256x1 32) (r : Fin 256) (h : 0 ≤ (i (ix2 r 0)).toInt) : rWrap i (ix3 r 0 0) = i (ix2 r 0) := by
  have e : rWrap i (ix3 r 0 0) = Scalar.select (IntOp.cmpi .slt (i (ix2 r 0)) 0#32) (i (ix2 r 0) + 16#32) (i (ix2 r 0)) := by
    pointwise [rWrap]
    rfl
  rw [e, WordCmp.cmpi_slt_eq]
  have : ¬ ((i (ix2 r 0)).toInt < (0#32 : BitVec 32).toInt) := by
    show ¬ ((i (ix2 r 0)).toInt < 0); omega
  rw [decide_eq_false this]; rfl

/-- Taking one column of each row: the row's entry at its start index. -/
theorem takeCol_apply {α : Type} (p : S256x16.Idx → α) (i : IVec S256x1x1 32) (r : Fin 256) (e : Fin 16)
    (h : (i (ix3 r 0 0)).toInt = e.val) :
    Host.gather gather_S256x16_S256x1x1_S256x1_n_1_0_0_1_2_11 p i (ix2 r 0) = p (ix2 r e) := by
  unfold Host.gather
  congr 1
  funext a
  refine Fin.ext ?_
  show GatherDims.start _ (ix2 r 0) i a + GatherDims.batchCoord _ (ix2 r 0) a + GatherDims.offCoord _ (ix2 r 0) a = _
  have h01 : a = 0 ∨ a = 1 := by
    match a with
    | ⟨0, _⟩ => exact Or.inl rfl
    | ⟨1, _⟩ => exact Or.inr rfl
  rcases h01 with rfl | rfl
  · rw [GatherDims.start_batching _ _ _ _ (by decide), GatherDims.offCoord_eq_zero _ _ _ (by decide)]
    simp only [Nat.zero_add, Nat.add_zero]
    rfl
  · rw [GatherDims.batchCoord_eq_zero _ _ _ (by decide), GatherDims.offCoord_eq_zero _ _ _ (by decide)]
    simp only [Nat.add_zero]
    have hs : gather_S256x16_S256x1x1_S256x1_n_1_0_0_1_2_11.siIdx (ix2 r 0) ⟨0, by decide⟩ = ix3 r 0 0 := by
      funext b; refine Fin.ext ?_
      match b with
      | ⟨0, _⟩ => rfl
      | ⟨1, _⟩ => rfl
      | ⟨2, _⟩ => rfl
    show min (i (gather_S256x16_S256x1x1_S256x1_n_1_0_0_1_2_11.siIdx (ix2 r 0) ⟨0, _⟩)).toInt.toNat 15 = e.val
    rw [hs, h]
    have := e.isLt
    omega

/-- Taking one matrix per row: the matrix at the row's start index. -/
theorem takeMat_apply {α : Type} (p : S16x128x256.Idx → α) (i : IVec S256x1 32) (r : Fin 256) (k : Fin 128) (j : Fin 256) (e : Fin 16)
    (h : (i (ix2 r 0)).toInt = e.val) :
    Host.gather gather_S16x128x256_S256x1_S256x128x256_12_0_n_n_0_1_1128256 p i (ix3 r k j) = p (ix3 e k j) := by
  unfold Host.gather
  congr 1
  funext a
  refine Fin.ext ?_
  show GatherDims.start _ (ix3 r k j) i a + GatherDims.batchCoord _ (ix3 r k j) a + GatherDims.offCoord _ (ix3 r k j) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.batchCoord_eq_zero _ _ _ (by decide), GatherDims.offCoord_eq_zero _ _ _ (by decide)]
    simp only [Nat.add_zero]
    have hs : gather_S16x128x256_S256x1_S256x128x256_12_0_n_n_0_1_1128256.siIdx (ix3 r k j) ⟨0, by decide⟩ = ix2 r 0 := by
      funext b; refine Fin.ext ?_
      match b with
      | ⟨0, _⟩ => rfl
      | ⟨1, _⟩ => rfl
    show min (i (gather_S16x128x256_S256x1_S256x128x256_12_0_n_n_0_1_1128256.siIdx (ix3 r k j) ⟨0, _⟩)).toInt.toNat 15 = e.val
    rw [hs, h]
    have := e.isLt
    omega
  · rw [GatherDims.batchCoord_eq_zero _ _ _ (by decide)]
    show 0 + 0 + k.val = k.val
    omega
  · rw [GatherDims.batchCoord_eq_zero _ _ _ (by decide)]
    show 0 + 0 + j.val = j.val
    omega

theorem rTake_apply (i : IVec S256x1 32) (r : Fin 256) (e : Fin 16) (h : (i (ix2 r 0)).toInt = e.val) :
    rTake x w i (ix2 r 0) = prob x w r e := by
  unfold rTake
  rw [takeCol_apply _ _ r e (by rw [rWrap_apply i r (by omega), h]), rProbs_apply]

/-- A token's features times expert `e`'s column `j`. -/
def ymul (r j : Fin 256) (e : Fin 16) : EReal := ∑ k : Fin 128, x (ix2 r k) * E (ix3 e k j)

theorem rMul_apply (i : IVec S256x1 32) (r j : Fin 256) (e : Fin 16) (h : (i (ix2 r 0)).toInt = e.val) :
    rMul x E i (ix2 r j) = ymul x E r j e := by
  unfold ymul
  have t : ∀ k, Host.gather gather_S16x128x256_S256x1_S256x128x256_12_0_n_n_0_1_1128256 E i (ix3 r k j) = E (ix3 e k j) := fun k => takeMat_apply E i r k j e h
  pointwise [rMul, t]

/-- The reference at a token and a column: the two chosen experts' products, each scaled by its share of the two probabilities. -/
theorem refv_apply (r j : Fin 256) (a b : Fin 16) (ha : (I (ix2 r 0)).toInt = a.val) (hb : (I (ix2 r 1)).toInt = b.val) :
    refv x w I E (ix2 r j) = Ideal.div (prob x w r a) (prob x w r a + prob x w r b) * ymul x E r j a
      + Ideal.div (prob x w r b) (prob x w r a + prob x w r b) * ymul x E r j b := by
  have e0 := rCol0_apply I r
  have e1 := rCol1_apply I r
  have ta := rTake_apply x w (rCol0 I) r a (by rw [e0, ha])
  have tb := rTake_apply x w (rCol1 I) r b (by rw [e1, hb])
  have ma := rMul_apply x E (rCol0 I) r j a (by rw [e0, ha])
  have mb := rMul_apply x E (rCol1 I) r j b (by rw [e1, hb])
  pointwise [refv, ta, tb, ma, mb]

end Cert.Moe

end
-- ==== Proof.Alg.lean ====
/-
# The law that moves the weights

The kernel scales a token's features by an expert's weight before it multiplies by the expert's matrix; the reference scales the product.
On finite features and router weights every weight is a real that is not negative, and the two agree, whatever the experts' matrices hold.
-/
module

public import proofs.«01_k».proof.Proof.Refv

@[expose] public section

noncomputable section

namespace Cert.Moe

open Cert.KernelIdeal Cert.KernelIdeal.Gen

open Idealize.ShloMosaic

/-- A value that is a real, -/
def IsR (v : EReal) : Prop := ∃ a : ℝ, v = a
/-- and one that is a positive real. -/
def IsP (v : EReal) : Prop := ∃ a : ℝ, 0 < a ∧ v = a

theorem IsR.mul {u v : EReal} : IsR u → IsR v → IsR (u * v)
  | ⟨a, ha⟩, ⟨b, hb⟩ => ⟨a * b, by rw [ha, hb, EReal.coe_mul]⟩
theorem IsR.add {u v : EReal} : IsR u → IsR v → IsR (u + v)
  | ⟨a, ha⟩, ⟨b, hb⟩ => ⟨a + b, by rw [ha, hb, EReal.coe_add]⟩
theorem IsR.sub {u v : EReal} : IsR u → IsR v → IsR (u - v)
  | ⟨a, ha⟩, ⟨b, hb⟩ => ⟨a - b, by rw [ha, hb, EReal.coe_sub]⟩
theorem IsR.max {u v : EReal} (hu : IsR u) (hv : IsR v) : IsR (max u v) := by
  rcases max_choice u v with h | h <;> rw [h] <;> assumption
theorem IsP.add {u v : EReal} : IsP u → IsP v → IsP (u + v)
  | ⟨a, h, ha⟩, ⟨b, k, hb⟩ => ⟨a + b, add_pos h k, by rw [ha, hb, EReal.coe_add]⟩
/-- The quotient of two positive reals is one. -/
theorem IsP.div {u v : EReal} : IsP u → IsP v → IsP (Ideal.div u v)
  | ⟨a, h, ha⟩, ⟨b, k, hb⟩ => ⟨a * (1 / b), mul_pos h (one_div_pos.mpr k), by
      rw [ha, hb, Ideal.div_coe k.ne', EReal.coe_mul]⟩
theorem IsR.exp {u : EReal} : IsR u → IsP (Ideal.exp u)
  | ⟨a, ha⟩ => ⟨Real.exp a, Real.exp_pos a, by rw [ha]; rfl⟩
/-- A finite sum of reals is one. -/
theorem IsR.sum {ι : Type} (s : Finset ι) (f : ι → EReal) (h : ∀ i, IsR (f i)) : IsR (∑ i ∈ s, f i) := by
  classical
  induction s using Finset.induction_on with
  | empty => exact ⟨0, by simp⟩
  | insert a s ha ih => rw [Finset.sum_insert ha]; exact (h a).add ih
/-- The sum over the sixteen experts of positive reals is one. -/
theorem IsP.sum (f : Fin 16 → EReal) (h : ∀ i, IsP (f i)) : IsP (∑ i, f i) := by
  choose g hg he using h
  refine ⟨∑ i, g i, Finset.sum_pos (fun i _ => hg i) ⟨0, Finset.mem_univ _⟩, ?_⟩
  have : ∀ s : Finset (Fin 16), ∑ i ∈ s, f i = ((∑ i ∈ s, g i : ℝ) : EReal) := by
    intro s
    induction s using Finset.induction_on with
    | empty => simp
    | insert a s ha ih => rw [Finset.sum_insert ha, Finset.sum_insert ha, ih, he a, EReal.coe_add]
  exact this _
/-- The greatest of finitely many reals is one, or there are none. -/
theorem fold_isR (s : Finset (Fin 16)) (f : Fin 16 → EReal) (h : ∀ i, IsR (f i)) : (s = ∅ ∧ s.fold Max.max ⊥ f = ⊥) ∨ IsR (s.fold Max.max ⊥ f) := by
  induction s using Finset.induction_on with
  | empty => exact Or.inl ⟨rfl, rfl⟩
  | insert a s ha ih =>
    right
    rw [Finset.fold_insert ha]
    rcases ih with ⟨_, e⟩ | e
    · rw [e, max_bot_right]; exact h a
    · exact (h a).max e

section
variable (x : FVec Ideal S256x128 .f32) (w : FVec Ideal S128x16 .f32)
  (hx : ∀ r k, IsR (x (ix2 r k))) (hw : ∀ k e, IsR (w (ix2 k e)))
include hx hw

/-- On finite features and router weights the scores are real, -/
theorem score_isR (r : Fin 256) (e : Fin 16) : IsR (score x w r e) := IsR.sum _ _ fun k => (hx r k).mul (hw k e)
/-- so is the greatest, -/
theorem top_isR (r : Fin 256) : IsR (top x w r) := by
  rcases fold_isR Finset.univ (fun e => score x w r e) (fun e => score_isR x w hx hw r e) with ⟨h, _⟩ | h
  · exact absurd h (Finset.univ_nonempty (α := Fin 16)).ne_empty
  · exact h
/-- and every probability is a positive real. -/
theorem prob_isP (r : Fin 256) (e : Fin 16) : IsP (prob x w r e) :=
  have h := fun e => ((score_isR x w hx hw r e).sub (top_isR x w hx hw r)).exp
  (h e).div (IsP.sum _ h)
end

/-- The number of an expert, as a word. -/
theorem num_inj : ∀ e e' : Fin 16, BitVec.ofNat 32 e.val = BitVec.ofNat 32 e'.val ↔ e = e' := by decide +kernel
theorem num_toInt : ∀ e : Fin 16, (BitVec.ofNat 32 e.val).toInt = e.val := by decide +kernel
theorem eq_num (a : BitVec 32) (e : Fin 16) (h : a.toInt = e.val) : a = BitVec.ofNat 32 e.val :=
  BitVec.eq_of_toInt_eq (by rw [h, num_toInt])

/-- The probability picked by comparing expert numbers is the expert's. -/
theorem pick_num (x : FVec Ideal S256x128 .f32) (w : FVec Ideal S128x16 .f32) (r : Fin 256) (e : Fin 16) : pick x w r (BitVec.ofNat 32 e.val) = prob x w r e := by
  unfold pick
  simp only [num_inj]
  rw [Finset.sum_ite_eq' Finset.univ e, if_pos (Finset.mem_univ _)]

/-- A factor that is a real and not negative comes out of a sum, whatever the terms. -/
theorem scale_sum (c : EReal) (h0 : 0 ≤ c) (h1 : c ≠ ⊤) (f g : Fin 128 → EReal) : ∑ k, f k * c * g k = c * ∑ k, f k * g k := by
  have : ∀ s : Finset (Fin 128), ∑ k ∈ s, f k * c * g k = c * ∑ k ∈ s, f k * g k := by
    intro s
    induction s using Finset.induction_on with
    | empty => simp
    | insert a s ha ih =>
      rw [Finset.sum_insert ha, Finset.sum_insert ha, ih, EReal.left_distrib_of_nonneg_of_ne_top h0 h1, mul_comm (f a) c, mul_assoc]
  exact this _

/-- The sixteen experts, two to a device. -/
theorem sum_experts (f : Fin 16 → EReal) :
    ∑ d : Fin 8, (f ⟨2 * d.val, by omega⟩ + f ⟨2 * d.val + 1, by omega⟩) = ∑ e, f e := by
  rw [Fin.sum_univ_eight]
  have h : ∑ e, f e = f 0 + f 1 + f 2 + f 3 + f 4 + f 5 + f 6 + f 7 + f 8 + f 9 + f 10 + f 11 + f 12 + f 13 + f 14 + f 15 := by
    rw [Fin.sum_univ_castSucc, Fin.sum_univ_castSucc, Fin.sum_univ_castSucc, Fin.sum_univ_castSucc, Fin.sum_univ_castSucc, Fin.sum_univ_castSucc,
      Fin.sum_univ_castSucc, Fin.sum_univ_castSucc, Fin.sum_univ_eight]
    rfl
  rw [h]
  simp only [← add_assoc]
  rfl

/-- What expert `n` adds for a token and a column. -/
def contrib (x : FVec Ideal S256x128 .f32) (w : FVec Ideal S128x16 .f32) (I : IVec S256x2 32) (E : FVec Ideal ⟨3, ![16, 128, 256]⟩ .f32) (r j : Fin 256) (n : Fin 16) : EReal :=
  ∑ k : Fin 128, x (ix2 r k) * wt x w r (I (ix2 r 0)) (I (ix2 r 1)) (BitVec.ofNat 32 n.val) * E (ix3 n k j)

/-- The devices' contributions sum to the reference: only the two chosen experts' terms are not zero. -/
theorem total (x : FVec Ideal S256x128 .f32) (w : FVec Ideal S128x16 .f32) (I : IVec S256x2 32) (E : FVec Ideal ⟨3, ![16, 128, 256]⟩ .f32)
    (Ed : Dev nD → FVec Ideal S2x128x256 .f32)
    (hx : ∀ r k, IsR (x (ix2 r k))) (hw : ∀ k e, IsR (w (ix2 k e))) (hI : ∀ r s, ∃ e : Fin 16, (I (ix2 r s)).toInt = e.val)
    (hE0 : ∀ (d : Fin 8) k j, Ed d (ix3 0 k j) = E (ix3 ⟨2 * d.val, by omega⟩ k j))
    (hE1 : ∀ (d : Fin 8) k j, Ed d (ix3 1 k j) = E (ix3 ⟨2 * d.val + 1, by omega⟩ k j)) (r j : Fin 256) :
    ∑ d : Fin 8, (show EReal from accv (F := Ideal) d x w I (Ed d) (ix2 r j)) = refv x w I E (ix2 r j) := by
  obtain ⟨a, ha⟩ := hI r 0
  obtain ⟨b, hb⟩ := hI r 1
  rw [refv_apply x w I E r j a b ha hb]
  have pa := prob_isP x w hx hw r a
  have pb := prob_isP x w hx hw r b
  obtain ⟨A, hA, eA⟩ := pa.div (pa.add pb)
  obtain ⟨B, hB, eB⟩ := pb.div (pa.add pb)
  have hA0 : (0 : EReal) ≤ (A : EReal) := EReal.coe_nonneg.mpr hA.le
  have hB0 : (0 : EReal) ≤ (B : EReal) := EReal.coe_nonneg.mpr hB.le
  -- the weight of expert `n`, and its contribution
  have hwt : ∀ n : Fin 16, wt x w r (I (ix2 r 0)) (I (ix2 r 1)) (BitVec.ofNat 32 n.val) = (if a = n then (A : EReal) else 0) + if b = n then (B : EReal) else 0 := by
    intro n
    unfold wt
    rw [eq_num _ a ha, eq_num _ b hb, pick_num, pick_num, eA, eB]
    simp only [num_inj]
  have hterm : ∀ n : Fin 16, contrib x w I E r j n
      = (if a = n then (A : EReal) * ymul x E r j n else 0) + if b = n then (B : EReal) * ymul x E r j n else 0 := by
    intro n
    unfold contrib
    rw [hwt n]
    have ta : (0 : EReal) ≤ if a = n then (A : EReal) else 0 := by split <;> [exact hA0; exact le_rfl]
    have tb : (0 : EReal) ≤ if b = n then (B : EReal) else 0 := by split <;> [exact hB0; exact le_rfl]
    have na : (if a = n then (A : EReal) else 0) + (if b = n then (B : EReal) else 0) ≠ ⊤ := by
      split <;> split <;> first | exact EReal.add_ne_top (EReal.coe_ne_top _) (EReal.coe_ne_top _) | simp
    rw [scale_sum _ (add_nonneg ta tb) na, EReal.right_distrib_of_nonneg ta tb]
    congr 1 <;> split <;> simp [ymul]
  have hd : ∀ d : Fin 8, (show EReal from accv (F := Ideal) d x w I (Ed d) (ix2 r j))
      = contrib x w I E r j ⟨2 * d.val, by omega⟩
        + contrib x w I E r j ⟨2 * d.val + 1, by omega⟩ := by
    intro d
    refine (accv_apply x w d I (Ed d) r j).trans ?_
    simp only [hE0, hE1, contrib]
  refine (Finset.sum_congr rfl fun d _ => hd d).trans ((sum_experts (contrib x w I E r j)).trans ?_)
  simp only [hterm]
  rw [Finset.sum_add_distrib, Finset.sum_ite_eq Finset.univ a, Finset.sum_ite_eq Finset.univ b, if_pos (Finset.mem_univ _), if_pos (Finset.mem_univ _), eA, eB]

end Cert.Moe

end
-- ==== Proof.Pre.lean ====
/-
# The precondition, read

That the features and the router's weights are real and every route index is an expert's number, from the mask the precondition computes.
-/
module

public import proofs.«01_k».proof.Pre_finite_in_range_KernelIdeal
public import proofs.«01_k».proof.Pre_finite_in_range_ReferenceIdeal
public import proofs.«01_k».proof.Proof.Alg

@[expose] public section

noncomputable section

namespace Cert.Moe

open Cert.Pre_finite_in_range_KernelIdeal

open Idealize.ShloMosaic

/-- The side conditions of the mask, of a device's blocks; -/
theorem preFacts : Cert.Pre_finite_in_range_KernelIdeal.Facts := by constructor <;> decide
/-- and of the whole arrays. -/
theorem preFactsR : Cert.Pre_finite_in_range_ReferenceIdeal.Facts := by constructor <;> decide

attribute [local instance] preFacts

theorem posInf : Idealize.ShloMosaic.Ideal.ofBits .f32 0x7F800000#32 = ⊤ := by simp [Ideal.ofBits, Ideal.ieee]

/-- A magnitude below infinity is a real's. -/
theorem isR_of_abs (v : EReal) (h : max v (-v) < ⊤) : IsR v := by
  induction v with
  | bot => simp at h
  | top => simp at h
  | coe a => exact ⟨a, rfl⟩

theorem and_one (a b : BitVec 1) (h : IntOp.andi a b = 1#1) : a = 1#1 ∧ b = 1#1 := by
  revert h; revert a b; decide
theorem ofBool_one (b : Bool) (h : BitVec.ofBool b = 1#1) : b = true := by
  cases b <;> simp_all

variable (x : FVec Ideal S256x128 .f32) (w : FVec Ideal S128x16 .f32) (I : IVec S256x2 32) (E : FVec Ideal S2x128x256 .f32)

/-- The mask at an index. -/
theorem fn_apply (r : Fin 256) (k : Fin 128) (e : Fin 16) (s : Fin 2) :
    fn (F := Ideal) x w I E (ix4 r k e s) = IntOp.andi (IntOp.andi (FloatOps.cmpf (F := Ideal) .olt (FloatOps.absf (x (ix2 r k))) (⊤ : EReal)) (FloatOps.cmpf (F := Ideal) .olt (FloatOps.absf (w (ix2 k e))) (⊤ : EReal)))
      (IntOp.andi (IntOp.cmpi .sge (I (ix2 r s)) 0#32) (IntOp.cmpi .slt (I (ix2 r s)) 16#32)) := by
  pointwise [fn]
  rw [posInf]

/-- Where the mask is all ones the features and the router's weights are real and every route index is an expert's number. -/
theorem pre_read (h : fn (F := Ideal) x w I E = fun _ => 1#1) :
    (∀ r k, IsR (x (ix2 r k))) ∧ (∀ k e, IsR (w (ix2 k e))) ∧ ∀ r s, ∃ e : Fin 16, (I (ix2 r s)).toInt = e.val := by
  have hh : ∀ r k e s, (x (ix2 r k) ⊔ -x (ix2 r k) : EReal) < ⊤ ∧ (w (ix2 k e) ⊔ -w (ix2 k e) : EReal) < ⊤
      ∧ 0 ≤ (I (ix2 r s)).toInt ∧ (I (ix2 r s)).toInt < 16 := by
    intro r k e s
    have q := congrFun h (ix4 r k e s)
    rw [fn_apply] at q
    obtain ⟨q1, q2⟩ := and_one _ _ q
    obtain ⟨a1, a2⟩ := and_one _ _ q1
    obtain ⟨b1, b2⟩ := and_one _ _ q2
    rw [WordCmp.cmpi_sge_eq] at b1
    rw [WordCmp.cmpi_slt_eq] at b2
    exact ⟨of_decide_eq_true (ofBool_one _ a1), of_decide_eq_true (ofBool_one _ a2), of_decide_eq_true (ofBool_one _ b1), of_decide_eq_true (ofBool_one _ b2)⟩
  refine ⟨fun r k => isR_of_abs _ (hh r k 0 0).1, fun k e => isR_of_abs _ (hh 0 k e 0).2.1, fun r s => ?_⟩
  obtain ⟨_, _, h0, h1⟩ := hh r 0 0 s
  exact ⟨⟨(I (ix2 r s)).toInt.toNat, by omega⟩, by show (I (ix2 r s)).toInt = ((I (ix2 r s)).toInt.toNat : ℤ); omega⟩

end Cert.Moe

end
-- ==== Proof.lean ====
/-
# The certificate

The claims of `Cert.Claim`, from the run of the kernel (Proof/Launch.lean), its result at an index (Proof/Out.lean) and the law that
moves the weights (Proof/Alg.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Out
public import proofs.«01_k».proof.Proof.Pre
public import Idealize.ShloMosaic.Adequacy
public import Idealize.ShloMosaic.Init

@[expose] public section

noncomputable section

namespace Cert.Proof

open Idealize.ShloMosaic Idealize.SL.Sem Cert.Kernel

/-- The kernel ends with its arguments unchanged and every counter at zero, over any float values: the run of `Moe.run_main`. -/
theorem frame_run {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun _ h => ⟨fun c => ⟨(h.1 c (0 : Fin 5)).trans (Cert.Moe.finalA_0 m ρ c), (h.1 c (1 : Fin 5)).trans (Cert.Moe.finalA_1 m ρ c),
    (h.1 c (2 : Fin 5)).trans (Cert.Moe.finalA_2 m ρ c), (h.1 c (3 : Fin 5)).trans (Cert.Moe.finalA_3 m ρ c)⟩, h.2⟩) (Cert.Moe.run_main m ρ)

/-- The two printings of the kernel, the one read over float bits and the one read over the extended reals, have one table
    of bodies: -/
theorem defs₀_eq : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) => rfl
  | ⟨_ + 1, h⟩, _ => exact absurd h (Nat.not_lt.2 (Nat.le_add_left _ _))
/-- and so one program. -/
theorem defs_eq : Cert.Kernel.defs (F := Bits) = Cert.KernelIdeal.defs (F := Bits) := congrArg (Pipeline.defs (Cert.KernelIdeal.pcfgs (F := Bits))) defs₀_eq

/-- Over float bits. -/
theorem frame_kernel : Cert.quiescent_Kernel := fun m ρ _ => by
  rw [defs_eq]; exact frame_run (F := Bits) m ρ

/-- Over the extended reals. -/
theorem frame_kernelIdeal : Cert.quiescent_KernelIdeal := fun m ρ _ => frame_run (F := Ideal) m ρ

/-- The reference declares no semaphore and writes no argument. -/
theorem frame_referenceIdeal : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- A precondition only asks for less. -/
theorem frame_kernelIdeal_pre : Cert.quiescent_KernelIdeal_pre_finite_in_range_KernelIdeal (hPre_finite_in_range_KernelIdeal := Cert.Moe.preFacts) :=
  fun m ρ _ => frame_kernelIdeal m ρ trivial
theorem frame_referenceIdeal_pre : Cert.quiescent_ReferenceIdeal_pre_finite_in_range_ReferenceIdeal (hPre_finite_in_range_ReferenceIdeal := Cert.Moe.preFactsR) :=
  fun m ρ _ => frame_referenceIdeal m ρ trivial

/-- Experts `2 c` and `2 c + 1` of the whole array are device `c`'s two. -/
theorem block_0 (E : (⟨3, ![16, 128, 256]⟩ : Shape).Idx → EReal) (c : Fin 8) (k : Fin 128) (j : Fin 256) :
    Layout.block ⟨3, ![2, 128, 256]⟩ ⟨3, ![16, 128, 256]⟩ 0 8 c E (by decide) (ix3 0 k j) = E (ix3 ⟨2 * c.val, by omega⟩ k j) := by
  refine congrArg E (funext fun a => Fin.ext ?_)
  match a with
  | ⟨0, _⟩ => show c.val * 2 + 0 = 2 * c.val; omega
  | ⟨1, _⟩ => rfl
  | ⟨2, _⟩ => rfl
theorem block_1 (E : (⟨3, ![16, 128, 256]⟩ : Shape).Idx → EReal) (c : Fin 8) (k : Fin 128) (j : Fin 256) :
    Layout.block ⟨3, ![2, 128, 256]⟩ ⟨3, ![16, 128, 256]⟩ 0 8 c E (by decide) (ix3 1 k j) = E (ix3 ⟨2 * c.val + 1, by omega⟩ k j) := by
  refine congrArg E (funext fun a => Fin.ext ?_)
  match a with
  | ⟨0, _⟩ => show c.val * 2 + 1 = 2 * c.val + 1; omega
  | ⟨1, _⟩ => rfl
  | ⟨2, _⟩ => rfl

/-- Over the extended reals, on finite features and router weights and route indices in range, every device of the kernel ends holding the
    reference's whole result. -/
theorem algebraic : Cert.algebraic_KernelIdeal_ReferenceIdeal_pre_finite_in_range_KernelIdeal (hPre_finite_in_range_KernelIdeal := Cert.Moe.preFacts) := by
  intro m g m' g' hpre hag
  refine ⟨Cert.ReferenceIdeal.Value.res_main_v29 (F := Ideal) m' 0, ?_, ?_⟩
  · refine (θ_run Cert.KernelIdeal.defs _ _).mono (fun _ h c => ⟨(h.1 c (4 : Fin 5)).trans ?_, (h.1 c (0 : Fin 5)).trans (Cert.Moe.finalA_0 m g c), (h.1 c (1 : Fin 5)).trans (Cert.Moe.finalA_1 m g c),
      (h.1 c (2 : Fin 5)).trans (Cert.Moe.finalA_2 m g c), (h.1 c (3 : Fin 5)).trans (Cert.Moe.finalA_3 m g c)⟩) (Cert.Moe.run_main (F := Ideal) m g)
    rw [Cert.Moe.finalA_4, Cert.Moe.res_eq]
    obtain ⟨hx, hw, hI⟩ := Cert.Moe.pre_read _ _ _ _ (hpre c)
    rw [(hag c).1] at hx
    rw [(hag c).2.1] at hw
    rw [(hag c).2.2.1] at hI
    funext i
    obtain ⟨r, j, rfl⟩ : ∃ (r j : Fin 256), i = ix2 r j := ⟨i 0, i 1, funext fun a => match a with | ⟨0, _⟩ => rfl | ⟨1, _⟩ => rfl⟩
    have ha : ∀ d : Dev Cert.KernelIdeal.nD, Cert.Moe.accA m d = Cert.Moe.accv d (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1))
        (m' (((0 : Dev Cert.ReferenceIdeal.nD).tc : Thread Cert.ReferenceIdeal.nD Cert.ReferenceIdeal.τ).loc Cert.ReferenceIdeal.main_arg2))
        (m ((d.tc : Thread Cert.KernelIdeal.nD Cert.KernelIdeal.τ).loc Cert.KernelIdeal.main_arg3)) := fun d => by
      unfold Cert.Moe.accA
      rw [Cert.Moe.xs_eq, Cert.Moe.ws_eq, Cert.Moe.is_eq, Cert.Moe.es_eq, (hag d).1, (hag d).2.1, (hag d).2.2.1]
    have ho := Cert.Moe.outA_apply m c r j
    simp only [ha] at ho
    exact ho.trans (Cert.Moe.total _ _ _ _ (fun d => m ((d.tc : Thread Cert.KernelIdeal.nD Cert.KernelIdeal.τ).loc Cert.KernelIdeal.main_arg3)) hx hw hI
      (fun d k j => (congrFun (hag d).2.2.2 (ix3 0 k j)).trans (block_0 _ d k j)) (fun d k j => (congrFun (hag d).2.2.2 (ix3 1 k j)).trans (block_1 _ d k j)) r j)
  · exact (θ_run Cert.ReferenceIdeal.defs _ _).mono (fun _ h => h 0) (Cert.ReferenceIdeal.Value.run (F := Ideal) m' g')

/-- Everything claimed. -/
theorem claim : Cert.Claim := ⟨Cert.Kernel.Gen.facts, Cert.KernelIdeal.Gen.facts, Cert.ReferenceIdeal.Gen.facts, Cert.Moe.preFacts, Cert.Moe.preFactsR,
  frame_kernel, frame_kernelIdeal, frame_kernelIdeal_pre, frame_referenceIdeal, frame_referenceIdeal_pre, trivial, algebraic⟩

end Cert.Proof

end
